-- ==== Defs.lean ====
def Pre_Kernel [hPre_block_csr : Cert.Pre_block_csr.Facts] (m : (ℓ : Loc Cert.Kernel.nD Cert.Kernel.τ Cert.Kernel.sig) → Buf (Elt Bits) ℓ) : Prop :=
  ∀ c : Dev Cert.Kernel.nD,
    (Cert.Pre_block_csr.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_block_csr : Cert.Pre_block_csr.Facts] (m : (ℓ : Loc Cert.KernelIdeal.nD Cert.KernelIdeal.τ Cert.KernelIdeal.sig) → Buf (Elt Ideal) ℓ) : Prop :=
  ∀ c : Dev Cert.KernelIdeal.nD,
    (Cert.Pre_block_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_block_csr [hPre_block_csr : Cert.Pre_block_csr.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_block_csr : Cert.Pre_block_csr.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_block_csr : Cert.Pre_block_csr.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_block_csr [hReferenceIdeal : Cert.ReferenceIdeal.Facts] [hPre_block_csr : Cert.Pre_block_csr.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_block_csr m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_block_csr : Cert.Pre_block_csr.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_block_csr : Cert.Pre_block_csr.Facts),
    quiescent_Kernel (hKernel := hKernel) (hPre_block_csr := hPre_block_csr)
    ∧ quiescent_KernelIdeal (hKernelIdeal := hKernelIdeal) (hPre_block_csr := hPre_block_csr)
    ∧ quiescent_ReferenceIdeal (hReferenceIdeal := hReferenceIdeal)
    ∧ quiescent_ReferenceIdeal_pre_block_csr (hReferenceIdeal := hReferenceIdeal) (hPre_block_csr := hPre_block_csr)
    ∧ preserves_Kernel_KernelIdeal
    ∧ algebraic_KernelIdeal_ReferenceIdeal (hKernelIdeal := hKernelIdeal) (hReferenceIdeal := hReferenceIdeal) (hPre_block_csr := hPre_block_csr)
-- ==== Pre_block_csr.lean ====
abbrev S24x384x1536 : Shape := ⟨3, ![24, 384, 1536]⟩
abbrev S71 : Shape := ⟨1, ![71]⟩
abbrev S378 : Shape := ⟨1, ![378]⟩
abbrev S378x128x128 : Shape := ⟨3, ![378, 128, 128]⟩
abbrev S1 : Shape := ⟨1, ![1]⟩
abbrev S_ : Shape := ⟨0, ![]⟩
abbrev S70 : Shape := ⟨1, ![70]⟩
abbrev S70x1 : Shape := ⟨2, ![70, 1]⟩
abbrev S1x378 : Shape := ⟨2, ![1, 378]⟩
abbrev S70x378 : Shape := ⟨2, ![70, 378]⟩

class Facts : Prop where
  slices_S71_S1_0 : S71.Slices ![0] S1
  bcast_S_S1 : S_.BroadcastsInDim S1 (![] : Fin 0 → Fin S1.rank)
  slices_S71_S1_70 : S71.Slices ![70] S1
  slices_S71_S70_0 : S71.Slices ![0] S70
  slices_S71_S70_1 : S71.Slices ![1] S70
  bcast_S1_S378_0 : S1.BroadcastsInDim S378 (![0] : Fin 1 → Fin S378.rank)
  bcast_S_S378 : S_.BroadcastsInDim S378 (![] : Fin 0 → Fin S378.rank)
  bcast_S1_S70_0 : S1.BroadcastsInDim S70 (![0] : Fin 1 → Fin S70.rank)
  bcast_S70_S70x1_0 : S70.BroadcastsInDim S70x1 (![0] : Fin 1 → Fin S70x1.rank)
  bcast_S378_S1x378_1 : S378.BroadcastsInDim S1x378 (![1] : Fin 1 → Fin S1x378.rank)
  bcast_S70x1_S70x378_0_1 : S70x1.BroadcastsInDim S70x378 (![0, 1] : Fin 2 → Fin S70x378.rank)
  bcast_S1x378_S70x378_0_1 : S1x378.BroadcastsInDim S70x378 (![0, 1] : Fin 2 → Fin S70x378.rank)

variable [Facts]

def fn_part1 {F : FTy → Type} [FloatOps F] (main_v6 : IVec S1 1) (main_v9 : IVec S70 1) (main_v19 : IVec S378 1) : IVec S70x378 1 :=
  let main_v20 : IVec S70 1 := broadcastInDim S70 ![0] bcast_S1_S70_0 main_v6
  let main_v21 : IVec S70 1 := andi main_v20 main_v9
  let main_v22 : IVec S70x1 1 := broadcastInDim S70x1 ![0] bcast_S70_S70x1_0 main_v21
  let main_v23 : IVec S1x378 1 := broadcastInDim S1x378 ![1] bcast_S378_S1x378_1 main_v19
  let main_v24 : IVec S70x378 1 := broadcastInDim S70x378 ![0, 1] bcast_S70x1_S70x378_0_1 main_v22
  let main_v25 : IVec S70x378 1 := broadcastInDim S70x378 ![0, 1] bcast_S1x378_S70x378_0_1 main_v23
  let main_v26 : IVec S70x378 1 := andi main_v24 main_v25
  main_v26

def fn {F : FTy → Type} [FloatOps F] (main_arg0 : FVec F S24x384x1536 .bf16) (main_arg1 : IVec S71 32) (main_arg2 : IVec S378 32) (main_arg3 : FVec F S378x128x128 .fp8e4m3) (main_arg4 : FVec F S378 .f32) : IVec S70x378 1 :=
  let main_v0 : IVec S1 32 := (extractStridedSlice S1 ![0] · slices_S71_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![70] · slices_S71_S1_70) main_arg1
  let main_c_0 : IVec S_ 32 := constantI S_ 32 378#32
  let main_v4 : IVec S1 32 := broadcastInDim S1 ![] bcast_S_S1 main_c_0
  let main_v5 : IVec S1 1 := cmpi .sle main_v3 main_v4
  let main_v6 : IVec S1 1 := andi main_v2 main_v5
  let main_v7 : IVec S70 32 := (extractStridedSlice S70 ![0] · slices_S71_S70_0) main_arg1
  let main_v8 : IVec S70 32 := (extractStridedSlice S70 ![1] · slices_S71_S70_1) main_arg1
  let main_v9 : IVec S70 1 := cmpi .sle main_v7 main_v8
  let main_v10 : IVec S1 32 := (extractStridedSlice S1 ![70] · slices_S71_S1_70) main_arg1
  let main_v11 : IVec S378 32 := iotaInDim S378 32 0
  let main_v12 : IVec S378 32 := broadcastInDim S378 ![0] bcast_S1_S378_0 main_v10
  let main_v13 : IVec S378 1 := cmpi .sle main_v12 main_v11
  let main_c_1 : IVec S_ 32 := constantI S_ 32 0#32
  let main_v14 : IVec S378 32 := broadcastInDim S378 ![] bcast_S_S378 main_c_1
  let main_v15 : IVec S378 1 := cmpi .sge main_arg2 main_v14
  let main_c_2 : IVec S_ 32 := constantI S_ 32 12#32
  let main_v16 : IVec S378 32 := broadcastInDim S378 ![] bcast_S_S378 main_c_2
  let main_v17 : IVec S378 1 := cmpi .slt main_arg2 main_v16
  let main_v18 : IVec S378 1 := andi main_v15 main_v17
  let main_v19 : IVec S378 1 := ori main_v13 main_v18
  fn_part1 (F := F) main_v6 main_v9 main_v19
-- ==== Kernel.lean ====
abbrev S24x384x1536 : Shape := ⟨3, ![24, 384, 1536]⟩
abbrev S71 : Shape := ⟨1, ![71]⟩
abbrev S378 : Shape := ⟨1, ![378]⟩
abbrev S378x128x128 : Shape := ⟨3, ![378, 128, 128]⟩
abbrev S9216x1536 : Shape := ⟨2, ![9216, 1536]⟩
abbrev S9216x8960 : Shape := ⟨2, ![9216, 8960]⟩
abbrev S256x1536 : Shape := ⟨2, ![256, 1536]⟩
abbrev S256x8960 : Shape := ⟨2, ![256, 8960]⟩
abbrev S8960x1536 : Shape := ⟨2, ![8960, 1536]⟩
abbrev S128x1536 : Shape := ⟨2, ![128, 1536]⟩
abbrev S1 : Shape := ⟨1, ![1]⟩
abbrev S128x128 : Shape := ⟨2, ![128, 128]⟩
abbrev S1x128x128 : Shape := ⟨3, ![1, 128, 128]⟩
abbrev S1280x1536 : Shape := ⟨2, ![1280, 1536]⟩
abbrev S256x1280 : Shape := ⟨2, ![256, 1280]⟩
abbrev S24x384x8960 : Shape := ⟨3, ![24, 384, 8960]⟩

abbrev nBuf : Space → Nat
  | .hbm => 6
  | .vmem => 6
  | .smem => 3
  | _ => 0

abbrev bufTy : (tb : Table) → Fin (tcTables nBuf tb) → BufTy
  | .hbm, ⟨0, _⟩ => ⟨S24x384x1536, .bf16⟩
  | .hbm, ⟨1, _⟩ => ⟨S378x128x128, .fp8e4m3⟩
  | .hbm, ⟨2, _⟩ => ⟨S378, .f32⟩
  | .hbm, ⟨3, _⟩ => ⟨S9216x1536, .bf16⟩
  | .hbm, ⟨4, _⟩ => ⟨S9216x8960, .bf16⟩
  | .hbm, ⟨5, _⟩ => ⟨S24x384x8960, .bf16⟩
  | .local _ .vmem, ⟨0, _⟩ => ⟨S256x1536, .bf16⟩
  | .local _ .vmem, ⟨1, _⟩ => ⟨S256x1536, .bf16⟩
  | .local _ .vmem, ⟨2, _⟩ => ⟨S378x128x128, .fp8e4m3⟩
  | .local _ .vmem, ⟨3, _⟩ => ⟨S256x8960, .bf16⟩
  | .local _ .vmem, ⟨4, _⟩ => ⟨S256x8960, .bf16⟩
  | .local _ .vmem, ⟨5, _⟩ => ⟨S8960x1536, .bf16⟩
  | .local _ .smem, ⟨0, _⟩ => ⟨S71, .i32⟩
  | .local _ .smem, ⟨1, _⟩ => ⟨S378, .i32⟩
  | .local _ .smem, ⟨2, _⟩ => ⟨S378, .f32⟩
  | _, _ => ⟨S24x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_42 : BitVec 32 := 0#32
  let c70_i32 : BitVec 32 := 70#32
  let v45 : BitVec 32 := Scalar.addi c0_i32_42 c70_i32
  let c1_i32 : BitVec 32 := 1#32
  ⟨c0_i32_42, v45, c1_i32⟩
def k0_mult1 (k0_t1 : Fin k0_t1_loop.trips) : BitVec 32 :=
  let c0_i32_42 : BitVec 32 := 0#32
  let c1_i32 : BitVec 32 := 1#32
  let arg8 : BitVec 32 := Scf.iv c0_i32_42 c1_i32 k0_t1
  let c128_i32 : BitVec 32 := 128#32
  let v46 : BitVec 32 := Scalar.muli arg8 c128_i32
  v46
def k0_off1 (k0_t1 : Fin k0_t1_loop.trips) : Fin 2 → Nat :=
  let c0_i32_42 : BitVec 32 := 0#32
  let c1_i32 : BitVec 32 := 1#32
  let arg8 : BitVec 32 := Scf.iv c0_i32_42 c1_i32 k0_t1
  let c128_i32 : BitVec 32 := 128#32
  let v46 : BitVec 32 := Scalar.muli arg8 c128_i32
  let v47 : BitVec 32 := v46
  let v49 : Index := Scalar.indexCast v47
  let c0_45 : Index := 0#32
  ![v49.toNat, 0]
def k0_off2 (k0_t1 : Fin k0_t1_loop.trips) : Fin 1 → Nat :=
  let c0_i32_42 : BitVec 32 := 0#32
  let c1_i32 : BitVec 32 := 1#32
  let arg8 : BitVec 32 := Scf.iv c0_i32_42 c1_i32 k0_t1
  let v53 : Index := Scalar.indexCast arg8
  ![v53.toNat]
def k0_off3 (k0_t1 : Fin k0_t1_loop.trips) : Fin 1 → Nat :=
  let c0_i32_42 : BitVec 32 := 0#32
  let c1_i32 : BitVec 32 := 1#32
  let arg8 : BitVec 32 := Scf.iv c0_i32_42 c1_i32 k0_t1
  let c1_i32_46 : BitVec 32 := 1#32
  let v55 : BitVec 32 := Scalar.addi arg8 c1_i32_46
  let v56 : Index := Scalar.indexCast v55
  ![v56.toNat]
@[reducible] def k0_t2_loop (v54 : BitVec 32) (v57 : BitVec 32) : Scf.Loop 32 :=
  let v58 : BitVec 32 := Scalar.subi v57 v54
  let c1_i32_48 : BitVec 32 := 1#32
  let v60 : BitVec 32 := Scalar.divsi v58 c1_i32_48
  let v61 : BitVec 32 := Scalar.muli v60 c1_i32_48
  let v62 : BitVec 32 := Scalar.addi v54 v61
  let c1_i32_49 : BitVec 32 := 1#32
  ⟨v54, v62, c1_i32_49⟩

def k0_off4 (v54 : BitVec 32) (v57 : BitVec 32) (k0_t2 : Fin (k0_t2_loop v54 v57).trips) : Fin 1 → Nat :=
  let c1_i32_49 : BitVec 32 := 1#32
  let arg9 : BitVec 32 := Scf.iv v54 c1_i32_49 k0_t2
  let v65 : Index := Scalar.indexCast arg9
  ![v65.toNat]
def k0_mult2 (v66 : BitVec 32) : BitVec 32 :=
  let c128_i32_51 : BitVec 32 := 128#32
  let v67 : BitVec 32 := Scalar.muli v66 c128_i32_51
  v67

def k0_off5 (v54 : BitVec 32) (v57 : BitVec 32) (k0_t2 : Fin (k0_t2_loop v54 v57).trips) : Fin 1 → Nat :=
  let c1_i32_49 : BitVec 32 := 1#32
  let arg9 : BitVec 32 := Scf.iv v54 c1_i32_49 k0_t2
  let v69 : Index := Scalar.indexCast arg9
  ![v69.toNat]
def k0_off6 (v54 : BitVec 32) (v57 : BitVec 32) (k0_t2 : Fin (k0_t2_loop v54 v57).trips) : Fin 3 → Nat :=
  let c1_i32_49 : BitVec 32 := 1#32
  let arg9 : BitVec 32 := Scf.iv v54 c1_i32_49 k0_t2
  let v73 : Index := Scalar.indexCast arg9
  let c0_52 : Index := 0#32
  let c0_53 : Index := 0#32
  ![v73.toNat, 0, 0]
def k0_off7 (k0_t1 : Fin k0_t1_loop.trips) (v66 : BitVec 32) : Fin 2 → Nat :=
  let c0_i32_42 : BitVec 32 := 0#32
  let c1_i32 : BitVec 32 := 1#32
  let arg8 : BitVec 32 := Scf.iv c0_i32_42 c1_i32 k0_t1
  let c128_i32 : BitVec 32 := 128#32
  let v46 : BitVec 32 := Scalar.muli arg8 c128_i32
  let v47 : BitVec 32 := v46
  let v78 : Index := Scalar.indexCast v47
  let c128_i32_51 : BitVec 32 := 128#32
  let v67 : BitVec 32 := Scalar.muli v66 c128_i32_51
  let v68 : BitVec 32 := v67
  let v79 : Index := Scalar.indexCast v68
  ![v78.toNat, v79.toNat]

def k0_chk2 (i : grid0.Coords) (k0_t1 : Fin k0_t1_loop.trips) (v66 : BitVec 32) : Prop :=
  (∀ (k0_h1 : k0_cond1 i = 1#1), 128 ∣ (k0_mult2 v66).toNat) ∧
  (∀ (k0_h1 : k0_cond1 i = 1#1), ∀ a, (k0_off7 k0_t1 v66) a + S128x128.size a ≤ S8960x1536.size a) ∧
  (∀ (k0_h1 : k0_cond1 i = 1#1), ∀ (hinb : ∀ a, (k0_off7 k0_t1 v66) a + S128x128.size a ≤ S8960x1536.size a), (Rect.unit (s := S8960x1536) (k0_off7 k0_t1 v66) S128x128.size hinb).PackedRows (EltTy.packing .bf16))
theorem k0_mult2_dvd : ∀ (i : grid0.Coords) (k0_t1 : Fin k0_t1_loop.trips) (v66 : BitVec 32) (k0_hw2 : k0_chk2 i k0_t1 v66), ∀ (k0_h1 : k0_cond1 i = 1#1), 128 ∣ (k0_mult2 v66).toNat := fun i k0_t1 v66 k0_hw2 k0_h1 => k0_hw2.1 k0_h1
theorem k0_off7_inb : ∀ (i : grid0.Coords) (k0_t1 : Fin k0_t1_loop.trips) (v66 : BitVec 32) (k0_hw2 : k0_chk2 i k0_t1 v66), ∀ (k0_h1 : k0_cond1 i = 1#1), ∀ a, (k0_off7 k0_t1 v66) a + S128x128.size a ≤ S8960x1536.size a := fun i k0_t1 v66 k0_hw2 k0_h1 => k0_hw2.2.1 k0_h1
theorem k0_off7_packedbf16 : ∀ (i : grid0.Coords) (k0_t1 : Fin k0_t1_loop.trips) (v66 : BitVec 32) (k0_hw2 : k0_chk2 i k0_t1 v66), ∀ (k0_h1 : k0_cond1 i = 1#1), (Rect.unit (s := S8960x1536) (k0_off7 k0_t1 v66) S128x128.size (k0_off7_inb i k0_t1 v66 k0_hw2 k0_h1)).PackedRows (EltTy.packing .bf16) := fun i k0_t1 v66 k0_hw2 k0_h1 => k0_hw2.2.2 k0_h1 (k0_off7_inb i k0_t1 v66 k0_hw2 k0_h1)

@[reducible] def k0_t3_loop (v54 : BitVec 32) (v57 : BitVec 32) : Scf.Loop 32 :=
  let v58 : BitVec 32 := Scalar.subi v57 v54
  let c1_i32_48 : BitVec 32 := 1#32
  let v60 : BitVec 32 := Scalar.divsi v58 c1_i32_48
  let v61 : BitVec 32 := Scalar.muli v60 c1_i32_48
  let v62 : BitVec 32 := Scalar.addi v54 v61
  let v59 : BitVec 32 := Scalar.addi v54 v58
  let c1_i32_50 : BitVec 32 := 1#32
  ⟨v62, v59, c1_i32_50⟩
def k0_off8 (v54 : BitVec 32) (v57 : BitVec 32) (k0_t3 : Fin (k0_t3_loop v54 v57).trips) : Fin 1 → Nat :=
  let v58 : BitVec 32 := Scalar.subi v57 v54
  let c1_i32_48 : BitVec 32 := 1#32
  let v60 : BitVec 32 := Scalar.divsi v58 c1_i32_48
  let v61 : BitVec 32 := Scalar.muli v60 c1_i32_48
  let v62 : BitVec 32 := Scalar.addi v54 v61
  let c1_i32_50 : BitVec 32 := 1#32
  let arg9 : BitVec 32 := Scf.iv v62 c1_i32_50 k0_t3
  let v65 : Index := Scalar.indexCast arg9
  ![v65.toNat]
def k0_mult3 (v66 : BitVec 32) : BitVec 32 :=
  let c128_i32_51 : BitVec 32 := 128#32
  let v67 : BitVec 32 := Scalar.muli v66 c128_i32_51
  v67

def k0_off9 (v54 : BitVec 32) (v57 : BitVec 32) (k0_t3 : Fin (k0_t3_loop v54 v57).trips) : Fin 1 → Nat :=
  let v58 : BitVec 32 := Scalar.subi v57 v54
  let c1_i32_48 : BitVec 32 := 1#32
  let v60 : BitVec 32 := Scalar.divsi v58 c1_i32_48
  let v61 : BitVec 32 := Scalar.muli v60 c1_i32_48
  let v62 : BitVec 32 := Scalar.addi v54 v61
  let c1_i32_50 : BitVec 32 := 1#32
  let arg9 : BitVec 32 := Scf.iv v62 c1_i32_50 k0_t3
  let v69 : Index := Scalar.indexCast arg9
  ![v69.toNat]
def k0_off10 (v54 : BitVec 32) (v57 : BitVec 32) (k0_t3 : Fin (k0_t3_loop v54 v57).trips) : Fin 3 → Nat :=
  let v58 : BitVec 32 := Scalar.subi v57 v54
  let c1_i32_48 : BitVec 32 := 1#32
  let v60 : BitVec 32 := Scalar.divsi v58 c1_i32_48
  let v61 : BitVec 32 := Scalar.muli v60 c1_i32_48
  let v62 : BitVec 32 := Scalar.addi v54 v61
  let c1_i32_50 : BitVec 32 := 1#32
  let arg9 : BitVec 32 := Scf.iv v62 c1_i32_50 k0_t3
  let v73 : Index := Scalar.indexCast arg9
  let c0_52 : Index := 0#32
  let c0_53 : Index := 0#32
  ![v73.toNat, 0, 0]

def k0_chk1 (i : grid0.Coords) (v54 : BitVec 32) (v57 : BitVec 32) : Prop :=
  (∀ (k0_h1 : k0_cond1 i = 1#1), (k0_t2_loop v54 v57).OK) ∧
  (∀ k0_t2 : Fin (k0_t2_loop v54 v57).trips, ∀ (k0_h1 : k0_cond1 i = 1#1), ∀ a, (k0_off4 v54 v57 k0_t2) a + S1.size a ≤ S378.size a) ∧
  (∀ k0_t2 : Fin (k0_t2_loop v54 v57).trips, ∀ (k0_h1 : k0_cond1 i = 1#1), ∀ a, (k0_off5 v54 v57 k0_t2) a + S1.size a ≤ S378.size a) ∧
  (∀ k0_t2 : Fin (k0_t2_loop v54 v57).trips, ∀ (k0_h1 : k0_cond1 i = 1#1), ∀ a, (k0_off6 v54 v57 k0_t2) a + S1x128x128.size a ≤ S378x128x128.size a) ∧
  (∀ (k0_h1 : k0_cond1 i = 1#1), (k0_t3_loop v54 v57).OK) ∧
  (∀ k0_t3 : Fin (k0_t3_loop v54 v57).trips, ∀ (k0_h1 : k0_cond1 i = 1#1), ∀ a, (k0_off8 v54 v57 k0_t3) a + S1.size a ≤ S378.size a) ∧
  (∀ k0_t3 : Fin (k0_t3_loop v54 v57).trips, ∀ (k0_h1 : k0_cond1 i = 1#1), ∀ a, (k0_off9 v54 v57 k0_t3) a + S1.size a ≤ S378.size a) ∧
  (∀ k0_t3 : Fin (k0_t3_loop v54 v57).trips, ∀ (k0_h1 : k0_cond1 i = 1#1), ∀ a, (k0_off10 v54 v57 k0_t3) a + S1x128x128.size a ≤ S378x128x128.size a)
theorem k0_t2_ok : ∀ (i : grid0.Coords) (v54 : BitVec 32) (v57 : BitVec 32) (k0_hw1 : k0_chk1 i v54 v57), ∀ (k0_h1 : k0_cond1 i = 1#1), (k0_t2_loop v54 v57).OK := fun i v54 v57 k0_hw1 k0_h1 => k0_hw1.1 k0_h1
theorem k0_off4_inb : ∀ (i : grid0.Coords) (v54 : BitVec 32) (v57 : BitVec 32) (k0_hw1 : k0_chk1 i v54 v57) (k0_t2 : Fin (k0_t2_loop v54 v57).trips), ∀ (k0_h1 : k0_cond1 i = 1#1), ∀ a, (k0_off4 v54 v57 k0_t2) a + S1.size a ≤ S378.size a := fun i v54 v57 k0_hw1 k0_t2 k0_h1 => k0_hw1.2.1 k0_t2 k0_h1
theorem k0_off5_inb : ∀ (i : grid0.Coords) (v54 : BitVec 32) (v57 : BitVec 32) (k0_hw1 : k0_chk1 i v54 v57) (k0_t2 : Fin (k0_t2_loop v54 v57).trips), ∀ (k0_h1 : k0_cond1 i = 1#1), ∀ a, (k0_off5 v54 v57 k0_t2) a + S1.size a ≤ S378.size a := fun i v54 v57 k0_hw1 k0_t2 k0_h1 => k0_hw1.2.2.1 k0_t2 k0_h1
theorem k0_off6_inb : ∀ (i : grid0.Coords) (v54 : BitVec 32) (v57 : BitVec 32) (k0_hw1 : k0_chk1 i v54 v57) (k0_t2 : Fin (k0_t2_loop v54 v57).trips), ∀ (k0_h1 : k0_cond1 i = 1#1), ∀ a, (k0_off6 v54 v57 k0_t2) a + S1x128x128.size a ≤ S378x128x128.size a := fun i v54 v57 k0_hw1 k0_t2 k0_h1 => k0_hw1.2.2.2.1 k0_t2 k0_h1
theorem k0_t3_ok : ∀ (i : grid0.Coords) (v54 : BitVec 32) (v57 : BitVec 32) (k0_hw1 : k0_chk1 i v54 v57), ∀ (k0_h1 : k0_cond1 i = 1#1), (k0_t3_loop v54 v57).OK := fun i v54 v57 k0_hw1 k0_h1 => k0_hw1.2.2.2.2.1 k0_h1
theorem k0_off8_inb : ∀ (i : grid0.Coords) (v54 : BitVec 32) (v57 : BitVec 32) (k0_hw1 : k0_chk1 i v54 v57) (k0_t3 : Fin (k0_t3_loop v54 v57).trips), ∀ (k0_h1 : k0_cond1 i = 1#1), ∀ a, (k0_off8 v54 v57 k0_t3) a + S1.size a ≤ S378.size a := fun i v54 v57 k0_hw1 k0_t3 k0_h1 => k0_hw1.2.2.2.2.2.1 k0_t3 k0_h1
theorem k0_off9_inb : ∀ (i : grid0.Coords) (v54 : BitVec 32) (v57 : BitVec 32) (k0_hw1 : k0_chk1 i v54 v57) (k0_t3 : Fin (k0_t3_loop v54 v57).trips), ∀ (k0_h1 : k0_cond1 i = 1#1), ∀ a, (k0_off9 v54 v57 k0_t3) a + S1.size a ≤ S378.size a := fun i v54 v57 k0_hw1 k0_t3 k0_h1 => k0_hw1.2.2.2.2.2.2.1 k0_t3 k0_h1
theorem k0_off10_inb : ∀ (i : grid0.Coords) (v54 : BitVec 32) (v57 : BitVec 32) (k0_hw1 : k0_chk1 i v54 v57) (k0_t3 : Fin (k0_t3_loop v54 v57).trips), ∀ (k0_h1 : k0_cond1 i = 1#1), ∀ a, (k0_off10 v54 v57 k0_t3) a + S1x128x128.size a ≤ S378x128x128.size a := fun i v54 v57 k0_hw1 k0_t3 k0_h1 => k0_hw1.2.2.2.2.2.2.2 k0_t3 k0_h1

def k0_off11 (k0_t1 : Fin k0_t1_loop.trips) (v66 : BitVec 32) : Fin 2 → Nat :=
  let c0_i32_42 : BitVec 32 := 0#32
  let c1_i32 : BitVec 32 := 1#32
  let arg8 : BitVec 32 := Scf.iv c0_i32_42 c1_i32 k0_t1
  let c128_i32 : BitVec 32 := 128#32
  let v46 : BitVec 32 := Scalar.muli arg8 c128_i32
  let v47 : BitVec 32 := v46
  let v78 : Index := Scalar.indexCast v47
  let c128_i32_51 : BitVec 32 := 128#32
  let v67 : BitVec 32 := Scalar.muli v66 c128_i32_51
  let v68 : BitVec 32 := v67
  let v79 : Index := Scalar.indexCast v68
  ![v78.toNat, v79.toNat]

def k0_chk3 (i : grid0.Coords) (k0_t1 : Fin k0_t1_loop.trips) (v66 : BitVec 32) : Prop :=
  (∀ (k0_h1 : k0_cond1 i = 1#1), 128 ∣ (k0_mult3 v66).toNat) ∧
  (∀ (k0_h1 : k0_cond1 i = 1#1), ∀ a, (k0_off11 k0_t1 v66) a + S128x128.size a ≤ S8960x1536.size a) ∧
  (∀ (k0_h1 : k0_cond1 i = 1#1), ∀ (hinb : ∀ a, (k0_off11 k0_t1 v66) a + S128x128.size a ≤ S8960x1536.size a), (Rect.unit (s := S8960x1536) (k0_off11 k0_t1 v66) S128x128.size hinb).PackedRows (EltTy.packing .bf16))
theorem k0_mult3_dvd : ∀ (i : grid0.Coords) (k0_t1 : Fin k0_t1_loop.trips) (v66 : BitVec 32) (k0_hw3 : k0_chk3 i k0_t1 v66), ∀ (k0_h1 : k0_cond1 i = 1#1), 128 ∣ (k0_mult3 v66).toNat := fun i k0_t1 v66 k0_hw3 k0_h1 => k0_hw3.1 k0_h1
theorem k0_off11_inb : ∀ (i : grid0.Coords) (k0_t1 : Fin k0_t1_loop.trips) (v66 : BitVec 32) (k0_hw3 : k0_chk3 i k0_t1 v66), ∀ (k0_h1 : k0_cond1 i = 1#1), ∀ a, (k0_off11 k0_t1 v66) a + S128x128.size a ≤ S8960x1536.size a := fun i k0_t1 v66 k0_hw3 k0_h1 => k0_hw3.2.1 k0_h1
theorem k0_off11_packedbf16 : ∀ (i : grid0.Coords) (k0_t1 : Fin k0_t1_loop.trips) (v66 : BitVec 32) (k0_hw3 : k0_chk3 i k0_t1 v66), ∀ (k0_h1 : k0_cond1 i = 1#1), (Rect.unit (s := S8960x1536) (k0_off11 k0_t1 v66) S128x128.size (k0_off11_inb i k0_t1 v66 k0_hw3 k0_h1)).PackedRows (EltTy.packing .bf16) := fun i k0_t1 v66 k0_hw3 k0_h1 => k0_hw3.2.2 k0_h1 (k0_off11_inb i k0_t1 v66 k0_hw3 k0_h1)

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S378 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S378x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8960 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S24x384x1536 : Shape := ⟨3, ![24, 384, 1536]⟩
abbrev S71 : Shape := ⟨1, ![71]⟩
abbrev S378 : Shape := ⟨1, ![378]⟩
abbrev S378x128x128 : Shape := ⟨3, ![378, 128, 128]⟩
abbrev S1x378 : Shape := ⟨2, ![1, 378]⟩
abbrev S71x1 : Shape := ⟨2, ![71, 1]⟩
abbrev S71x378 : Shape := ⟨2, ![71, 378]⟩
abbrev S_ : Shape := ⟨0, ![]⟩
abbrev S378x1x1 : Shape := ⟨3, ![378, 1, 1]⟩
abbrev S70x128x12x128 : Shape := ⟨4, ![70, 128, 12, 128]⟩
abbrev S378x1 : Shape := ⟨2, ![378, 1]⟩
abbrev S378x2 : Shape := ⟨2, ![378, 2]⟩
abbrev S8960x1536 : Shape := ⟨2, ![8960, 1536]⟩
abbrev S24x384x8960 : Shape := ⟨3, ![24, 384, 8960]⟩

abbrev nBuf : Space → Nat
  | .hbm => 42
  | .vmem => 3
  | .smem => 0
  | _ => 0

abbrev bufTy : (tb : Table) → Fin (tcTables nBuf tb) → BufTy
  | .hbm, ⟨0, _⟩ => ⟨S24x384x1536, .bf16⟩
  | .hbm, ⟨1, _⟩ => ⟨S71, .i32⟩
  | .hbm, ⟨2, _⟩ => ⟨S378, .i32⟩
  | .hbm, ⟨3, _⟩ => ⟨S378x128x128, .fp8e4m3⟩
  | .hbm, ⟨4, _⟩ => ⟨S378, .f32⟩
  | .hbm, ⟨5, _⟩ => ⟨S378, .i32⟩
  | .hbm, ⟨6, _⟩ => ⟨S1x378, .i32⟩
  | .hbm, ⟨7, _⟩ => ⟨S71x1, .i32⟩
  | .hbm, ⟨8, _⟩ => ⟨S71x378, .i32⟩
  | .hbm, ⟨9, _⟩ => ⟨S71x378, .i32⟩
  | .hbm, ⟨10, _⟩ => ⟨S71x378, .i1⟩
  | .hbm, ⟨11, _⟩ => ⟨S71x378, .i32⟩
  | .hbm, ⟨12, _⟩ => ⟨S_, .i32⟩
  | .hbm, ⟨13, _⟩ => ⟨S378, .i32⟩
  | .hbm, ⟨14, _⟩ => ⟨S_, .i32⟩
  | .hbm, ⟨15, _⟩ => ⟨S378, .i32⟩
  | .hbm, ⟨16, _⟩ => ⟨S378, .i32⟩
  | .hbm, ⟨17, _⟩ => ⟨S378x1x1, .f32⟩
  | .hbm, ⟨18, _⟩ => ⟨S378x128x128, .bf16⟩
  | .hbm, ⟨19, _⟩ => ⟨S_, .bf16⟩
  | .hbm, ⟨20, _⟩ => ⟨S70x128x12x128, .bf16⟩
  | .hbm, ⟨21, _⟩ => ⟨S_, .i32⟩
  | .hbm, ⟨22, _⟩ => ⟨S378, .i32⟩
  | .hbm, ⟨23, _⟩ => ⟨S378, .i1⟩
  | .hbm, ⟨24, _⟩ => ⟨S_, .i32⟩
  | .hbm, ⟨25, _⟩ => ⟨S378, .i32⟩
  | .hbm, ⟨26, _⟩ => ⟨S378, .i32⟩
  | .hbm, ⟨27, _⟩ => ⟨S378, .i32⟩
  | .hbm, ⟨28, _⟩ => ⟨S_, .i32⟩
  | .hbm, ⟨29, _⟩ => ⟨S378, .i32⟩
  | .hbm, ⟨30, _⟩ => ⟨S378, .i1⟩
  | .hbm, ⟨31, _⟩ => ⟨S_, .i32⟩
  | .hbm, ⟨32, _⟩ => ⟨S378, .i32⟩
  | .hbm, ⟨33, _⟩ => ⟨S378, .i32⟩
  | .hbm, ⟨34, _⟩ => ⟨S378, .i32⟩
  | .hbm, ⟨35, _⟩ => ⟨S378x1, .i32⟩
  | .hbm, ⟨36, _⟩ => ⟨S378x1, .i32⟩
  | .hbm, ⟨37, _⟩ => ⟨S378x2, .i32⟩
  | .hbm, ⟨38, _⟩ => ⟨S70x128x12x128, .bf16⟩
  | .hbm, ⟨39, _⟩ => ⟨S8960x1536, .bf16⟩
  | .hbm, ⟨40, _⟩ => ⟨S24x384x8960, .f32⟩
  | .hbm, ⟨41, _⟩ => ⟨S24x384x8960, .bf16⟩
  | .local _ .vmem, ⟨0, _⟩ => ⟨S378x128x128, .fp8e4m3⟩
  | .local _ .vmem, ⟨1, _⟩ => ⟨S378x1x1, .f32⟩
  | .local _ .vmem, ⟨2, _⟩ => ⟨S378x128x128, .bf16⟩
  | _, _ => ⟨S24x384x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_c : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S378x128x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S378x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S378x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Kit.lean ====
/- The kernel's one launch seen from outside the body: the host lines before and after it, the prefetched tables, the
   schedule of the four windows, what each input window holds at a grid point, the frame claim read off a run of the
   launch, and the branch condition of the body in closed form (it holds at the first grid point only). -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.FrameSuffix
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg4)) is fetched at the first point only, at any contents of the tables (its index map reads none). -/
theorem fetch0_0 (a : (pcfg0 (F := F)).Adm) : ∀ t : Fin (cfg0 a).N, ((cfg0 a).win 0).fetch t = true ↔ t.val % 36 = 0 :=
  (fun t => Pipeline.Window.fetchOf_const cc0_transform_0 (fun _ _ => rfl) (n := 36) (by decide) t : ∀ t : Fin grid0.N, Pipeline.Window.fetchOf grid0 false cc0_transform_0 t = true ↔ t.val % 36 = 0)
/-- Window 1 (operand 3 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%arg3)) is fetched at the first point only, at any contents of the tables (its index map reads none). -/
theorem fetch0_2 (a : (pcfg0 (F := F)).Adm) : ∀ t : Fin (cfg0 a).N, ((cfg0 a).win 2).fetch t = true ↔ t.val % 36 = 0 :=
  (fun t => Pipeline.Window.fetchOf_const cc0_transform_2 (fun _ _ => rfl) (n := 36) (by decide) t : ∀ t : Fin grid0.N, Pipeline.Window.fetchOf grid0 false cc0_transform_2 t = true ↔ t.val % 36 = 0)
/-- Window 3 (result 0 (%1)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_bsr_linear (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S71 .i32 := Memref.whole main_arg1
abbrev htbM0_0 : tbM0_0.IsWhole := Memref.isWhole_whole _
abbrev tbM0_1 : Memref sig .tc .smem S378 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      ((h c).1 2).trans (((dats 0 c).arrAt_in 2 rfl _).trans ((hA c 2).trans (V_main_arg3 m c))),
      ((h c).1 0).trans (((dats 0 c).arrAt_in 0 rfl _).trans ((hA c 0).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, e0]
    word_cmp
   : ∀ t : Fin grid0.N, cond0_0 (grid0.coords t) ↔ t.val % 36 = 0)

/-! ## The kernel body on any staging memrefs: a subtype the run finds -/

/-- One staging buffer of output window 3, through which its contents are stated (`View.read_writes_of_cover`: the
    choice does not matter). -/
abbrev VO0_3 : View sig .tc .vmem S256x8960 .bf16 := (Memref.whole cc0_stg3_0 : Memref sig .tc .vmem S256x8960 .bf16).view
/-- Each window's current staging memref at point `t`, spelled as the pipeline passes it (`bodyAt0`), and its wholeness. -/
abbrev ms0_0 (hO : Ok m) (t : Fin (cfgM m hO).N) : Memref sig .tc .smem S378 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1536 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S378x128x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x8960 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S8960x1536 .bf16 := Memref.whole cc0_scratch0
/-- The scratch `arg7` the kernel carries between points, as a view: what it holds is stated through it. -/
abbrev VS0_0 : View sig .tc .vmem S8960x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.Kernel

end
-- ==== Proof.Kernel.Words.lean ====
/- Word arithmetic of the body: the offsets its loads and stores compute and the trip counts of its loops, as plain
   numbers, and the side conditions the body assumes of the words it reads, all from three facts about those words: the
   row pointers `lo ≤ hi ≤ 378` of a block row and a block column below 12. -/
module

public import proofs.«01_k».proof.Proof.Kernel.Kit
public import Idealize.ShloMosaic.Lib.LoopRemainder

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

omit [FloatOps F] in
/-- The bound of the inner loop is the row's end: the quotient by one and the product by one change nothing. -/
theorem ub2 (lo hi : BitVec 32) : (k0_t2_loop lo hi).ub = hi := by
  show Scalar.addi lo (Scalar.muli (Scalar.divsi (Scalar.subi hi lo) 1#32) 1#32) = hi
  rw [Scalar.muli_divsi_one]
  show lo + (hi - lo) = hi
  rw [BitVec.add_comm]; exact BitVec.sub_add_cancel hi lo

/-- A word below 2^31 read signed is its value. -/
theorem toInt_small (x : BitVec 32) (h : x.toNat < 2 ^ 31) : x.toInt = x.toNat := by
  rw [BitVec.toInt_eq_toNat_cond]; split <;> omega

/-- The inner loop makes as many trips as the row has blocks. -/
theorem trips2 (lo hi : BitVec 32) (h : lo.toNat ≤ hi.toNat) (hb : hi.toNat ≤ 378) :
    (k0_t2_loop lo hi).trips = hi.toNat - lo.toNat := by
  show Scf.trips lo (k0_t2_loop lo hi).ub 1#32 = _
  rw [ub2]; unfold Scf.trips
  rw [toInt_small lo (by omega), toInt_small hi (by omega), show (1#32 : BitVec 32).toInt = 1 from by decide]
  omega

theorem trips1 : k0_t1_loop.trips = 70 := by decide

theorem lt70 (k : Fin k0_t1_loop.trips) : k.val < 70 := lt_of_lt_of_eq k.isLt trips1

theorem iv1 (k : ℕ) (h : k < 70) : (Scf.iv 0#32 1#32 k).toNat = k := by
  unfold Scf.iv
  simp only [BitVec.toNat_add, BitVec.toNat_mul, BitVec.toNat_ofNat]; omega

theorem iv2 (lo : BitVec 32) (k : ℕ) (h : lo.toNat + k ≤ 378) : (Scf.iv lo 1#32 k).toNat = lo.toNat + k := by
  unfold Scf.iv
  simp only [BitVec.toNat_add, BitVec.toNat_mul, BitVec.toNat_ofNat]; omega

/-- The rows the outer trip `r` clears start at row `128 r`. -/
theorem off1_eq (r : Fin k0_t1_loop.trips) : k0_off1 r = ![128 * r.val, 0] := by
  have h := lt70 r
  show ![(Scf.iv 0#32 1#32 r.val * 128#32).toNat, 0] = _
  rw [BitVec.toNat_mul, iv1 _ h]
  simp only [BitVec.toNat_ofNat]
  congr 1; omega

theorem off2_eq (r : Fin k0_t1_loop.trips) : k0_off2 r = ![r.val] := by
  show ![(Scf.iv 0#32 1#32 r.val).toNat] = _
  rw [iv1 _ (lt70 r)]

theorem off3_eq (r : Fin k0_t1_loop.trips) : k0_off3 r = ![r.val + 1] := by
  have h := lt70 r
  show ![(Scf.iv 0#32 1#32 r.val + 1#32).toNat] = _
  rw [BitVec.toNat_add, iv1 _ h]
  simp only [BitVec.toNat_ofNat]
  congr 1; omega

section
variable (lo hi : BitVec 32) (h : lo.toNat ≤ hi.toNat) (hb : hi.toNat ≤ 378) (k : Fin (k0_t2_loop lo hi).trips)
include h hb

theorem lt2 : lo.toNat + k.val < hi.toNat := by
  have := lt_of_lt_of_eq k.isLt (trips2 lo hi h hb); omega

theorem off4_eq : k0_off4 lo hi k = ![lo.toNat + k.val] := by
  have := lt2 lo hi h hb k
  show ![(Scf.iv lo 1#32 k.val).toNat] = _
  rw [iv2 _ _ (by omega)]

theorem off5_eq : k0_off5 lo hi k = ![lo.toNat + k.val] := by
  have := lt2 lo hi h hb k
  show ![(Scf.iv lo 1#32 k.val).toNat] = _
  rw [iv2 _ _ (by omega)]

theorem off6_eq : k0_off6 lo hi k = ![lo.toNat + k.val, 0, 0] := by
  have := lt2 lo hi h hb k
  show ![(Scf.iv lo 1#32 k.val).toNat, 0, 0] = _
  rw [iv2 _ _ (by omega)]

end

/-- The block the inner trip stores starts at row `128 r` and column `128 w`, `w` the block column read. -/
theorem off7_eq (r : Fin k0_t1_loop.trips) (w : BitVec 32) (hw : w.toNat < 12) :
    k0_off7 r w = ![128 * r.val, 128 * w.toNat] := by
  have h := lt70 r
  show ![(Scf.iv 0#32 1#32 r.val * 128#32).toNat, (w * 128#32).toNat] = _
  rw [BitVec.toNat_mul, iv1 _ h, BitVec.toNat_mul]
  simp only [BitVec.toNat_ofNat]
  congr 1
  · omega
  · congr 1; omega

/-- What the body assumes of a row's two pointers. -/
theorem chk1_of (i : grid0.Coords) (lo hi : BitVec 32) (h : lo.toNat ≤ hi.toNat) (hb : hi.toNat ≤ 378) : k0_chk1 i lo hi := by
  have rem (k : Fin (k0_t3_loop lo hi).trips) : False := Scf.rem_no_trip lo (Scalar.subi hi lo) k
  refine ⟨fun _ => ?_, fun k _ a => ?_, fun k _ a => ?_, fun k _ a => ?_, fun _ => Scf.rem_ok lo (Scalar.subi hi lo), fun k => (rem k).elim,
    fun k => (rem k).elim, fun k => (rem k).elim⟩
  · have e := trips2 lo hi h hb
    refine ⟨by show 0 < (1#32 : BitVec 32).toInt; decide, ?_⟩
    show lo.toInt + ((k0_t2_loop lo hi).trips : ℤ) * (1#32 : BitVec 32).toInt < _
    rw [e, toInt_small lo (by omega), show (1#32 : BitVec 32).toInt = 1 from by decide]
    omega
  · have := lt2 lo hi h hb k
    rw [off4_eq lo hi h hb]; fin_cases a; show lo.toNat + k.val + 1 ≤ 378; omega
  · have := lt2 lo hi h hb k
    rw [off5_eq lo hi h hb]; fin_cases a; show lo.toNat + k.val + 1 ≤ 378; omega
  · have := lt2 lo hi h hb k
    rw [off6_eq lo hi h hb]; fin_cases a
    · show lo.toNat + k.val + 1 ≤ 378; omega
    · show 0 + 128 ≤ 128; omega
    · show 0 + 128 ≤ 128; omega

/-- What the body assumes of a block column. -/
theorem chk2_of (i : grid0.Coords) (r : Fin k0_t1_loop.trips) (w : BitVec 32) (hw : w.toNat < 12) : k0_chk2 i r w := by
  have hr := lt70 r
  refine ⟨fun _ => ?_, fun _ a => ?_, fun _ hinb => ?_⟩
  · show 128 ∣ (w * 128#32).toNat
    rw [BitVec.toNat_mul]; simp only [BitVec.toNat_ofNat]; omega
  · rw [off7_eq r w hw]; fin_cases a
    · show 128 * r.val + 128 ≤ 8960; omega
    · show 128 * w.toNat + 128 ≤ 1536; omega
  · refine Affine.packed_dvd (by decide) ?_ ?_
    · rw [off7_eq r w hw]; show 2 ∣ 128 * r.val; omega
    · show 2 ∣ 128; decide

end Cert.Proof.Kernel

end
-- ==== Proof.Kernel.Fold.lean ====
/- What the body assembles in its scratch at the first grid point, entry by entry, as a recursion over the blocks of a
   block row: a later block of the same column overwrites an earlier one, an entry no block covers is zero. And the two
   invariants of the assembly, with the store of one trip carrying each to the next trip. -/
module

public import proofs.«01_k».proof.Proof.Kernel.Words
public import Idealize.ShloMosaic.Lib.WritesUnit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- After `n` of the positions `lo, lo + 1, …`, in order: the value at the last one that hits, `z` if none does. -/
def lastHit {α : Type} (hit : ℕ → Prop) [DecidablePred hit] (val : ℕ → α) (z : α) (lo : ℕ) : ℕ → α
  | 0 => z
  | n + 1 => if hit (lo + n) then val (lo + n) else lastHit hit val z lo n

/-! ## Indices by number -/

def i71 (n : ℕ) : S71.Idx := fun a => ⟨n % 71, by obtain rfl : a = 0 := Subsingleton.elim _ _; exact Nat.mod_lt _ (by decide)⟩
def i378 (n : ℕ) : S378.Idx := fun a => ⟨n % 378, by obtain rfl : a = 0 := Subsingleton.elim _ _; exact Nat.mod_lt _ (by decide)⟩
def i128 (p q : ℕ) : S128x128.Idx :=
  Fin.cons ⟨p % 128, Nat.mod_lt _ (by decide)⟩ (Fin.cons ⟨q % 128, Nat.mod_lt _ (by decide)⟩ finZeroElim)
def iblk3 (e : ℕ) (z : S1x128x128.Idx) : S378x128x128.Idx :=
  Fin.cons ⟨e % 378, Nat.mod_lt _ (by decide)⟩ (Fin.cons ⟨(z 1).val, (z 1).isLt⟩ (Fin.cons ⟨(z 2).val, (z 2).isLt⟩ finZeroElim))

section
variable (rp : S71.Idx → BitVec 32) (ci : S378.Idx → BitVec 32) (x0 : Vec F S378 .f32) (x2 : Vec F S378x128x128 .fp8e4m3)

/-- Row pointer `r` and block column `e` as numbers. -/
abbrev rpN (r : ℕ) : ℕ := (rp (i71 r)).toNat
abbrev ciN (e : ℕ) : ℕ := (ci (i378 e)).toNat

/-- What the tables hold: row pointers that start at 0, never fall and end at 378 or below; the column of every block before the last pointer
    below 12. -/
structure Good : Prop where
  start : rpN rp 0 = 0
  mono : ∀ r, r < 70 → rpN rp r ≤ rpN rp (r + 1)
  last : rpN rp 70 ≤ 378
  cols : ∀ e, e < rpN rp 70 → ciN ci e < 12

variable {rp ci} in
theorem Good.le_of_le (h : Good rp ci) {r s : ℕ} (hrs : r ≤ s) (hs : s ≤ 70) : rpN rp r ≤ rpN rp s := by
  induction s with
  | zero => obtain rfl : r = 0 := by omega
            exact le_refl _
  | succ s ih =>
    rcases Nat.lt_or_ge r (s + 1) with h1 | h1
    · exact (ih (by omega) (by omega)).trans (h.mono s (by omega))
    · obtain rfl : r = s + 1 := by omega
      exact le_refl _

variable {rp ci} in
theorem Good.le378 (h : Good rp ci) {r : ℕ} (hr : r ≤ 70) : rpN rp r ≤ 378 := (h.le_of_le hr (le_refl _)).trans h.last

/-- Entry (p, q) of block `e`, scaled: the payload of the inner trip's store. -/
def cellVal (e p q : ℕ) : Elt F .bf16 := k0_pay5 (x0 (i378 e)) (fun z => x2 (iblk3 e z)) (i128 p q)

/-- The zero the rows are cleared to. -/
def zeroVal : Elt F .bf16 := Scalar.ofBits .bf16 0x0000#16

/-- Entry `y` of the scratch after the first `n` blocks of its block row. -/
def cell (y : S8960x1536.Idx) (n : ℕ) : Elt F .bf16 :=
  lastHit (fun e => ciN ci e = (y 1).val / 128) (fun e => cellVal x0 x2 e ((y 0).val % 128) ((y 1).val % 128)) zeroVal
    (rpN rp ((y 0).val / 128)) n

/-- THE SCRATCH AFTER THE FIRST GRID POINT: the dense weights. -/
def weights : Vec F S8960x1536 .bf16 :=
  fun y => cell rp ci x0 x2 y (rpN rp ((y 0).val / 128 + 1) - rpN rp ((y 0).val / 128))

/-- Before outer trip `r`: the rows of the block rows before `r` are done. -/
def RowsDone (r : ℕ) (w : Vec F S8960x1536 .bf16) : Prop := ∀ y, (y 0).val < 128 * r → w y = weights rp ci x0 x2 y

/-- Before inner trip `n` of outer trip `r`: moreover the rows of block row `r` are as `n` of its blocks leave them. -/
def RowAt (r n : ℕ) (w : Vec F S8960x1536 .bf16) : Prop :=
  RowsDone rp ci x0 x2 r w ∧ ∀ y, 128 * r ≤ (y 0).val → (y 0).val < 128 * r + 128 → w y = cell rp ci x0 x2 y n

theorem pay4_apply (x : S128x1536.Idx) : k0_pay4 (F := F) x = zeroVal := by
  unfold k0_pay4 zeroVal; rfl

variable {rp ci x0 x2}

/-- The outer trip clears its rows. -/
theorem rowAt_zero (arg7 : Memref sig .tc .vmem S8960x1536 .bf16) (f : arg7.view.ty.Contents (Elt F)) (r : Fin k0_t1_loop.trips)
    (inb : ∀ a, k0_off1 r a + S128x1536.size a ≤ S8960x1536.size a)
    (h : RowsDone rp ci x0 x2 r.val (arg7.view.read (Elt F) f)) :
    RowAt rp ci x0 x2 r.val 0 (arg7.view.read (Elt F) (arg7.view.writes (Elt F) f [⟨Rect.unit (k0_off1 r) S128x1536.size inb, k0_pay4⟩])) := by
  refine ⟨fun y hy => ?_, fun y hy hy' => ?_⟩
  · rw [View.read_writes_cons_unit_of_not_mem arg7.view f inb _ _ y (off1_eq r) 0 (Or.inl hy)]
    exact h y hy
  · rw [View.read_writes_cons_unit_of_mem arg7.view f inb _ _ y
      (Fin.cons ⟨(y 0).val - 128 * r.val, by show (y 0).val - 128 * r.val < 128; omega⟩ (Fin.cons ⟨(y 1).val, (y 1).isLt⟩ finZeroElim))
      (off1_eq r) (fun a => by
        fin_cases a
        · show (y 0).val = 128 * r.val + ((y 0).val - 128 * r.val); omega
        · show (y 1).val = 0 + (y 1).val; omega)]
    rw [pay4_apply]; rfl

/-- The inner trip stores its block. -/
theorem rowAt_succ (arg7 : Memref sig .tc .vmem S8960x1536 .bf16) (f : arg7.view.ty.Contents (Elt F)) (r : Fin k0_t1_loop.trips) (n : ℕ)
    (w : BitVec 32) (hw : w.toNat = ciN ci (rpN rp r.val + n)) (hw12 : w.toNat < 12)
    (inb : ∀ a, k0_off7 r w a + S128x128.size a ≤ S8960x1536.size a) (pay : S128x128.Idx → Elt F .bf16)
    (hpay : ∀ x, pay x = cellVal x0 x2 (rpN rp r.val + n) (x 0).val (x 1).val)
    (h : RowAt rp ci x0 x2 r.val n (arg7.view.read (Elt F) f)) :
    RowAt rp ci x0 x2 r.val (n + 1) (arg7.view.read (Elt F) (arg7.view.writes (Elt F) f [⟨Rect.unit (k0_off7 r w) S128x128.size inb, pay⟩])) := by
  refine ⟨fun y hy => ?_, fun y hy hy' => ?_⟩
  · rw [View.read_writes_cons_unit_of_not_mem arg7.view f inb _ _ y (off7_eq r w hw12) 0 (Or.inl hy)]
    exact h.1 y hy
  · have hr : (y 0).val / 128 = r.val := by omega
    unfold cell lastHit
    rw [hr]
    by_cases hc : (y 1).val / 128 = w.toNat
    · rw [if_pos (hw.symm.trans hc.symm)]
      rw [View.read_writes_cons_unit_of_mem arg7.view f inb _ _ y
        (Fin.cons ⟨(y 0).val - 128 * r.val, by show (y 0).val - 128 * r.val < 128; omega⟩
          (Fin.cons ⟨(y 1).val - 128 * w.toNat, by show (y 1).val - 128 * w.toNat < 128; omega⟩ finZeroElim))
        (off7_eq r w hw12) (fun a => by
          fin_cases a
          · show (y 0).val = 128 * r.val + ((y 0).val - 128 * r.val); omega
          · show (y 1).val = 128 * w.toNat + ((y 1).val - 128 * w.toNat); omega)]
      rw [hpay]
      have e0 : (y 0).val % 128 = (y 0).val - 128 * r.val := by omega
      have e1 : (y 1).val % 128 = (y 1).val - 128 * w.toNat := by omega
      rw [e0, e1]; rfl
    · rw [if_neg (fun h => hc (h.symm.trans hw.symm))]
      rw [View.read_writes_cons_unit_of_not_mem arg7.view f inb _ _ y (off7_eq r w hw12) 1 (by
        show (y 1).val < 128 * w.toNat ∨ 128 * w.toNat + 128 ≤ (y 1).val
        omega)]
      have := h.2 y hy hy'
      unfold cell at this; rw [hr] at this
      exact this

/-- A block row whose blocks are all stored is done. -/
theorem rowsDone_succ (r : ℕ) (w : Vec F S8960x1536 .bf16) (h : RowAt rp ci x0 x2 r (rpN rp (r + 1) - rpN rp r) w) :
    RowsDone rp ci x0 x2 (r + 1) w := fun y hy => by
  rcases Nat.lt_or_ge (y 0).val (128 * r) with h1 | h1
  · exact h.1 y h1
  · have hr : (y 0).val / 128 = r := by omega
    rw [h.2 y h1 (by omega)]; unfold weights; rw [hr]

theorem rowsDone_zero (w : Vec F S8960x1536 .bf16) : RowsDone rp ci x0 x2 0 w := fun y hy => absurd hy (by omega)

/-- After the last outer trip the scratch holds the weights. -/
theorem eq_weights (w : Vec F S8960x1536 .bf16) (h : RowsDone rp ci x0 x2 70 w) : w = weights rp ci x0 x2 := funext fun y =>
  h y (by have : (y 0).val < 8960 := (y 0).isLt; omega)

end

end Cert.Proof.Kernel

end
-- ==== Proof.Kernel.T2.lean ====
/- The inner loop of the body (one trip per block of a block row), and its remainder loop, which has no trip. -/
module

public import proofs.«01_k».proof.Proof.Kernel.Fold

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg3 : Memref sig .tc .smem S378 .f32) (harg3 : arg3.IsWhole) (arg4 : Memref sig .tc .vmem S256x1536 .bf16) (harg4 : arg4.IsWhole) (arg5 : Memref sig .tc .vmem S378x128x128 .fp8e4m3) (harg5 : arg5.IsWhole) (arg6 : Memref sig .tc .vmem S256x8960 .bf16) (harg6 : arg6.IsWhole) (arg7 : Memref sig .tc .vmem S8960x1536 .bf16) (harg7 : arg7.IsWhole) (k0_h1 : k0_cond1 i = 1#1)
variable (x0 : Vec F S378 .f32) (x2 : Vec F S378x128x128 .fp8e4m3) (xt0 : TbBuf0 (F := F) c tbM0_0) (xt1 : TbBuf0 (F := F) c tbM0_1)

/-- The tables' contents as words. -/
abbrev rpOf : S71.Idx → BitVec 32 := tbM0_0.view.read (Elt F) xt0
abbrev ciOf : S378.Idx → BitVec 32 := tbM0_1.view.read (Elt F) xt1

/-- What the loops touch: scales, blocks and tables at their contents, the scratch at some contents with `P`. -/
abbrev Res (P : Vec F S8960x1536 .bf16 → Prop) : sProp 𝕄 :=
  iprop((arg3.view.loc (c : Thread nD τ) ↦[arg3.view.set]{fullShare} harg3.unread x0)
    ∗ (arg5.view.loc (c : Thread nD τ) ↦[arg5.view.set]{fullShare} harg5.unread x2)
    ∗ tbPt0 c tbM0_0 xt0 ∗ tbPt0 c tbM0_1 xt1
    ∗ (∃ fs, ⌜P (arg7.view.read (Elt F) fs)⌝ ∗ (arg7.view.loc (c : Thread nD τ) ↦[arg7.view.set]{fullShare} fs)))

/-- A word of a table, read at a unit rectangle. -/
theorem word0_eq (n : ℕ) (hn : n < 71) (off : Fin 1 → ℕ) (ho : off = ![n]) (inb : ∀ a, off a + S1.size a ≤ S71.size a) (x : S1.Idx) :
    View.readAt (Elt F) tbM0_0.view (Rect.unit (s := S71) off S1.size inb).toLoadRect xt0 x = rpOf c xt0 (i71 n) := by
  subst ho
  rw [View.readAt_apply]
  congr 1
  funext a
  obtain rfl : a = 0 := Subsingleton.elim _ _
  apply Fin.ext
  have : (x 0).val = 0 := by have h : (x 0).val < 1 := (x 0).isLt; omega
  show n + 1 * (x 0).val = n % 71
  omega
theorem word1_eq (n : ℕ) (hn : n < 378) (off : Fin 1 → ℕ) (ho : off = ![n]) (inb : ∀ a, off a + S1.size a ≤ S378.size a) (x : S1.Idx) :
    View.readAt (Elt F) tbM0_1.view (Rect.unit (s := S378) off S1.size inb).toLoadRect xt1 x = ciOf c xt1 (i378 n) := by
  subst ho
  rw [View.readAt_apply]
  congr 1
  funext a
  obtain rfl : a = 0 := Subsingleton.elim _ _
  apply Fin.ext
  have : (x 0).val = 0 := by have h : (x 0).val < 1 := (x 0).isLt; omega
  show n + 1 * (x 0).val = n % 378
  omega
theorem scale_eq (n : ℕ) (hn : n < 378) (off : Fin 1 → ℕ) (ho : off = ![n]) (inb : ∀ a, off a + S1.size a ≤ S378.size a) (x : S1.Idx) :
    View.readAt (Elt F) arg3.view (Rect.unit (s := S378) off S1.size inb).toLoadRect (harg3.unread x0) x = x0 (i378 n) := by
  subst ho
  rw [View.readAt_apply, harg3.read_unread]
  congr 1
  funext a
  obtain rfl : a = 0 := Subsingleton.elim _ _
  apply Fin.ext
  have : (x 0).val = 0 := by have h : (x 0).val < 1 := (x 0).isLt; omega
  show n + 1 * (x 0).val = n % 378
  omega
theorem block_eq (n : ℕ) (hn : n < 378) (off : Fin 3 → ℕ) (ho : off = ![n, 0, 0]) (inb : ∀ a, off a + S1x128x128.size a ≤ S378x128x128.size a) :
    View.readAt (Elt F) arg5.view (Rect.unit (s := S378x128x128) off S1x128x128.size inb).toLoadRect (harg5.unread x2) = fun z => x2 (iblk3 n z) := by
  subst ho
  funext z
  rw [View.readAt_apply, harg5.read_unread]
  congr 1
  funext a
  apply Fin.ext
  have : (z 0).val = 0 := by have h : (z 0).val < 1 := (z 0).isLt; omega
  fin_cases a
  · show n + 1 * (z 0).val = n % 378; omega
  · show 0 + 1 * (z 1).val = (z 1).val; omega
  · show 0 + 1 * (z 2).val = (z 2).val; omega

theorem i128_eta (x : S128x128.Idx) : i128 (x 0).val (x 1).val = x := by
  funext a
  apply Fin.ext
  have h0 : (x 0).val < 128 := (x 0).isLt
  have h1 : (x 1).val < 128 := (x 1).isLt
  fin_cases a
  · exact Nat.mod_eq_of_lt h0
  · exact Nat.mod_eq_of_lt h1

set_option maxHeartbeats 1000000 in
/-- ONE INNER TRIP: block `row pointer + k` is scaled and stored at its column. -/
theorem t2_step (hg : Good (rpOf c xt0) (ciOf c xt1)) (k0_t1 : Fin k0_t1_loop.trips) (v54 v57 : BitVec 32) (k0_hw1 : k0_chk1 i v54 v57)
    (h54 : v54 = rpOf c xt0 (i71 k0_t1.val)) (h57 : v57 = rpOf c xt0 (i71 (k0_t1.val + 1)))
    (k : Fin (k0_t2_loop v54 v57).trips) (acc : BitVec 32) :
    Res c arg3 harg3 arg5 harg5 arg7 x0 x2 xt0 xt1 (RowAt (rpOf c xt0) (ciOf c xt1) x0 x2 k0_t1.val k.val)
      ⊢ wp frame (wpE (defs₀ (F := F)) Variants.none c none) Set.univ
        (k0_t2_body (F := F) i tbM0_0 htbM0_0 tbM0_1 htbM0_1 arg3 harg3 arg4 harg4 arg5 harg5 arg6 harg6 arg7 harg7 k0_h1 k0_t1 v54 v57 k0_hw1 k acc)
        (fun _ => Res c arg3 harg3 arg5 harg5 arg7 x0 x2 xt0 xt1 (RowAt (rpOf c xt0) (ciOf c xt1) x0 x2 k0_t1.val (k.val + 1))) := by
  have hr := lt70 k0_t1
  have hm : v54.toNat ≤ v57.toNat := by rw [h54, h57]; exact hg.mono _ hr
  have hb : v57.toNat ≤ 378 := by rw [h57]; exact hg.le378 (r := k0_t1.val + 1) (by omega)
  have hk := lt2 v54 v57 hm hb k
  have e54 : v54.toNat = rpN (rpOf c xt0) k0_t1.val := by rw [h54]
  unfold Res
  iintro ⟨H0, H2, HT0, HT1, ⟨%fs, %hP, HS⟩⟩
  unfold k0_t2_body
  sl_exec
  have hw : t2_step.sl.r c i k0_h1 xt1 v54 v57 k0_hw1 k = ciOf c xt1 (i378 (v54.toNat + k.val)) := by
    unfold t2_step.sl.r
    exact word1_eq c xt1 (v54.toNat + k.val) (by omega) _ (off5_eq v54 v57 hm hb k) _ _
  have hw12 : (t2_step.sl.r c i k0_h1 xt1 v54 v57 k0_hw1 k).toNat < 12 := by
    rw [hw]
    have hl := hg.le_of_le (r := k0_t1.val + 1) (s := 70) (by omega) le_rfl
    have h57' : v57.toNat = rpN (rpOf c xt0) (k0_t1.val + 1) := by rw [h57]
    exact hg.cols _ (by omega)
  have hw2 : k0_chk2 i k0_t1 (t2_step.sl.r c i k0_h1 xt1 v54 v57 k0_hw1 k) := chk2_of i k0_t1 _ hw12
  sl_exec (disch := exact hw2)
  sl_step
  isplitl [H0]; · iexact H0
  isplitl [H2]; · iexact H2
  isplitl [HT0]; · iexact HT0
  isplitl [HT1]; · iexact HT1
  iexists _
  isplitr
  swap
  · iexact HS
  ipureintro
  refine rowAt_succ arg7 fs k0_t1 k.val _ (by rw [hw, e54]) hw12 _ _ (fun x => ?_) hP
  have hs : t2_step.sl.r_1 i arg3 harg3 k0_h1 x0 v54 v57 k0_hw1 k = x0 (i378 (v54.toNat + k.val)) := by
    unfold t2_step.sl.r_1
    exact scale_eq arg3 harg3 x0 (v54.toNat + k.val) (by omega) _ (off4_eq v54 v57 hm hb k) _ _
  rw [hs, block_eq arg5 harg5 x2 (v54.toNat + k.val) (by omega) _ (off6_eq v54 v57 hm hb k) _]
  unfold cellVal
  rw [i128_eta, e54]

set_option warn.classDefReducibility false in
/-- THE INNER LOOP'S INVARIANT. -/
def loopInv2 (hg : Good (rpOf c xt0) (ciOf c xt1)) (k0_t1 : Fin k0_t1_loop.trips) (v54 v57 : BitVec 32) (k0_hw1 : k0_chk1 i v54 v57)
    (h54 : v54 = rpOf c xt0 (i71 k0_t1.val)) (h57 : v57 = rpOf c xt0 (i71 (k0_t1.val + 1))) (init : BitVec 32) :
    LoopInvTy_k0_t2 (F := F) Unit ℕ (UR sig nD τ) ℕ Variants.none c none Set.univ i tbM0_0 htbM0_0 tbM0_1 htbM0_1 arg3 harg3 arg4 harg4 arg5 harg5 arg6 harg6 arg7 harg7 k0_h1 k0_t1 v54 v57 k0_hw1 init where
  inv k _ := Res c arg3 harg3 arg5 harg5 arg7 x0 x2 xt0 xt1 (RowAt (rpOf c xt0) (ciOf c xt1) x0 x2 k0_t1.val k)
  step k acc := t2_step c i arg3 harg3 arg4 harg4 arg5 harg5 arg6 harg6 arg7 harg7 k0_h1 x0 x2 xt0 xt1 hg k0_t1 v54 v57 k0_hw1 h54 h57 k acc

/-- The inner loop whole: every block of the block row. -/
theorem t2_loop (hg : Good (rpOf c xt0) (ciOf c xt1)) (k0_t1 : Fin k0_t1_loop.trips) (v54 v57 : BitVec 32) (k0_hw1 : k0_chk1 i v54 v57)
    (h54 : v54 = rpOf c xt0 (i71 k0_t1.val)) (h57 : v57 = rpOf c xt0 (i71 (k0_t1.val + 1))) (init : BitVec 32)
    {β : Type} {kk : BitVec 32 → Prog (TpuEff nD τ sig (Elt F) Λ₀ .tc) β} {Q : β → sProp 𝕄} :
    Res c arg3 harg3 arg5 harg5 arg7 x0 x2 xt0 xt1 (RowAt (rpOf c xt0) (ciOf c xt1) x0 x2 k0_t1.val 0)
      ⊢ iprop((∀ acc, Res c arg3 harg3 arg5 harg5 arg7 x0 x2 xt0 xt1
            (RowAt (rpOf c xt0) (ciOf c xt1) x0 x2 k0_t1.val (k0_t2_loop v54 v57).trips)
          -∗ wp frame (wpE (defs₀ (F := F)) Variants.none c none) Set.univ (kk acc) Q)
        -∗ wp frame (wpE (defs₀ (F := F)) Variants.none c none) Set.univ
          (Scf.Loop.for (k0_t2_loop v54 v57) (k0_t2_ok i v54 v57 k0_hw1 k0_h1) init
            (k0_t2_body (F := F) i tbM0_0 htbM0_0 tbM0_1 htbM0_1 arg3 harg3 arg4 harg4 arg5 harg5 arg6 harg6 arg7 harg7 k0_h1 k0_t1 v54 v57 k0_hw1) >>= kk) Q) :=
  exec_loop _ _ _ _ _ _ _ _ _ (loopInv2 c i arg3 harg3 arg4 harg4 arg5 harg5 arg6 harg6 arg7 harg7 k0_h1 x0 x2 xt0 xt1 hg k0_t1 v54 v57 k0_hw1 h54 h57 init)
end

end Cert.Proof.Kernel

end
-- ==== Proof.Kernel.T1.lean ====
/- The outer loop of the body: one trip per block row clears the rows and assembles the blocks. -/
module

public import proofs.«01_k».proof.Proof.Kernel.T2
public import Idealize.ShloMosaic.Lib.LoopRemainder

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg3 : Memref sig .tc .smem S378 .f32) (harg3 : arg3.IsWhole) (arg4 : Memref sig .tc .vmem S256x1536 .bf16) (harg4 : arg4.IsWhole) (arg5 : Memref sig .tc .vmem S378x128x128 .fp8e4m3) (harg5 : arg5.IsWhole) (arg6 : Memref sig .tc .vmem S256x8960 .bf16) (harg6 : arg6.IsWhole) (arg7 : Memref sig .tc .vmem S8960x1536 .bf16) (harg7 : arg7.IsWhole) (k0_h1 : k0_cond1 i = 1#1)
variable (x0 : Vec F S378 .f32) (x2 : Vec F S378x128x128 .fp8e4m3) (xt0 : TbBuf0 (F := F) c tbM0_0) (xt1 : TbBuf0 (F := F) c tbM0_1)

set_option maxHeartbeats 1000000 in
/-- ONE OUTER TRIP. -/
theorem t1_step (hg : Good (rpOf c xt0) (ciOf c xt1)) (k0_t1 : Fin k0_t1_loop.trips) :
    Res c arg3 harg3 arg5 harg5 arg7 x0 x2 xt0 xt1 (RowsDone (rpOf c xt0) (ciOf c xt1) x0 x2 k0_t1.val)
      ⊢ wp frame (wpE (defs₀ (F := F)) Variants.none c none) Set.univ
        (k0_t1_body (F := F) i tbM0_0 htbM0_0 tbM0_1 htbM0_1 arg3 harg3 arg4 harg4 arg5 harg5 arg6 harg6 arg7 harg7 k0_h1 k0_t1 ())
        (fun _ => Res c arg3 harg3 arg5 harg5 arg7 x0 x2 xt0 xt1 (RowsDone (rpOf c xt0) (ciOf c xt1) x0 x2 (k0_t1.val + 1))) := by
  have hr := lt70 k0_t1
  unfold Res
  iintro ⟨H0, H2, HT0, HT1, ⟨%fs, %hP, HS⟩⟩
  unfold k0_t1_body
  sl_exec
  have h54 : t1_step.sl.r c i k0_h1 xt0 k0_t1 = rpOf c xt0 (i71 k0_t1.val) := by
    unfold t1_step.sl.r
    exact word0_eq c xt0 k0_t1.val (by omega) _ (off2_eq k0_t1) _ _
  have h57 : t1_step.sl.r_1 c i k0_h1 xt0 k0_t1 = rpOf c xt0 (i71 (k0_t1.val + 1)) := by
    unfold t1_step.sl.r_1
    exact word0_eq c xt0 (k0_t1.val + 1) (by omega) _ (off3_eq k0_t1) _ _
  have hm : (t1_step.sl.r c i k0_h1 xt0 k0_t1).toNat ≤ (t1_step.sl.r_1 c i k0_h1 xt0 k0_t1).toNat := by
    rw [h54, h57]; exact hg.mono _ hr
  have hb : (t1_step.sl.r_1 c i k0_h1 xt0 k0_t1).toNat ≤ 378 := by rw [h57]; exact hg.le378 (r := k0_t1.val + 1) (by omega)
  have hw1 := chk1_of i _ _ hm hb
  have hP0 := rowAt_zero arg7 fs k0_t1 (k0_off1_inb i k0_t1 k0_h1) hP
  sl_exec (disch := exact hw1)
  iapply (t2_loop c i arg3 harg3 arg4 harg4 arg5 harg5 arg6 harg6 arg7 harg7 k0_h1 x0 x2 xt0 xt1 hg k0_t1 _ _ hw1 h54 h57 _) $$ [H0 H2 HT0 HT1 HS]
  · isplitl [H0]; · iexact H0
    isplitl [H2]; · iexact H2
    isplitl [HT0]; · iexact HT0
    isplitl [HT1]; · iexact HT1
    iexists _
    isplitr
    swap
    · iexact HS
    ipureintro; exact hP0
  iintro %acc ⟨H0, H2, HT0, HT1, ⟨%fs', %hP', HS⟩⟩
  sl_exec
  sl_step
  isplitl [H0]; · iexact H0
  isplitl [H2]; · iexact H2
  isplitl [HT0]; · iexact HT0
  isplitl [HT1]; · iexact HT1
  iexists fs'
  isplitr
  swap
  · iexact HS
  ipureintro
  refine rowsDone_succ _ _ ?_
  have ht := trips2 _ _ hm hb
  have e : rpN (rpOf c xt0) (k0_t1.val + 1) - rpN (rpOf c xt0) k0_t1.val = (t1_step.sl.r_1 c i k0_h1 xt0 k0_t1).toNat - (t1_step.sl.r c i k0_h1 xt0 k0_t1).toNat := by
    rw [h54, h57]
  rw [e, ← ht]
  exact hP'

set_option warn.classDefReducibility false in
/-- THE OUTER LOOP'S INVARIANT. -/
def loopInv1 (hg : Good (rpOf c xt0) (ciOf c xt1)) :
    LoopInvTy_k0_t1 (F := F) Unit ℕ (UR sig nD τ) ℕ Variants.none c none Set.univ i tbM0_0 htbM0_0 tbM0_1 htbM0_1 arg3 harg3 arg4 harg4 arg5 harg5 arg6 harg6 arg7 harg7 k0_h1 where
  inv k _ := Res c arg3 harg3 arg5 harg5 arg7 x0 x2 xt0 xt1 (RowsDone (rpOf c xt0) (ciOf c xt1) x0 x2 k)
  step k _ := t1_step c i arg3 harg3 arg4 harg4 arg5 harg5 arg6 harg6 arg7 harg7 k0_h1 x0 x2 xt0 xt1 hg k

/-- The outer loop whole, in front of the rest of the body: the scratch, whatever it held, holds the weights. -/
theorem t1_loop (hg : Good (rpOf c xt0) (ciOf c xt1))
    {β : Type} {kk : Unit → Prog (TpuEff nD τ sig (Elt F) Λ₀ .tc) β} {Q : β → sProp 𝕄} :
    Res c arg3 harg3 arg5 harg5 arg7 x0 x2 xt0 xt1 (RowsDone (rpOf c xt0) (ciOf c xt1) x0 x2 0)
      ⊢ iprop((∀ _ : Unit, Res c arg3 harg3 arg5 harg5 arg7 x0 x2 xt0 xt1 (RowsDone (rpOf c xt0) (ciOf c xt1) x0 x2 k0_t1_loop.trips)
          -∗ wp frame (wpE (defs₀ (F := F)) Variants.none c none) Set.univ (kk ()) Q)
        -∗ wp frame (wpE (defs₀ (F := F)) Variants.none c none) Set.univ
          (Scf.Loop.for k0_t1_loop (k0_t1_ok i k0_h1) ⟨⟩
            (k0_t1_body (F := F) i tbM0_0 htbM0_0 tbM0_1 htbM0_1 arg3 harg3 arg4 harg4 arg5 harg5 arg6 harg6 arg7 harg7 k0_h1) >>= kk) Q) :=
  exec_loop _ _ _ _ _ _ _ _ _ (loopInv1 c i arg3 harg3 arg4 harg4 arg5 harg5 arg6 harg6 arg7 harg7 k0_h1 x0 x2 xt0 xt1 hg)

/-- The outer loop whole, as the last operation of its region. -/
theorem t1_loop_last (hg : Good (rpOf c xt0) (ciOf c xt1)) {Q : Unit → sProp 𝕄} :
    Res c arg3 harg3 arg5 harg5 arg7 x0 x2 xt0 xt1 (RowsDone (rpOf c xt0) (ciOf c xt1) x0 x2 0)
      ⊢ iprop((∀ u : Unit, Res c arg3 harg3 arg5 harg5 arg7 x0 x2 xt0 xt1 (RowsDone (rpOf c xt0) (ciOf c xt1) x0 x2 k0_t1_loop.trips) -∗ Q u)
        -∗ wp frame (wpE (defs₀ (F := F)) Variants.none c none) Set.univ
          (Scf.Loop.for k0_t1_loop (k0_t1_ok i k0_h1) ⟨⟩
            (k0_t1_body (F := F) i tbM0_0 htbM0_0 tbM0_1 htbM0_1 arg3 harg3 arg4 harg4 arg5 harg5 arg6 harg6 arg7 harg7 k0_h1)) Q) :=
  exec_loop_last _ _ _ _ _ _ _ _ _ (loopInv1 c i arg3 harg3 arg4 harg4 arg5 harg5 arg6 harg6 arg7 harg7 k0_h1 x0 x2 xt0 xt1 hg)
end

end Cert.Proof.Kernel

end
-- ==== Proof.Kernel.Run.lean ====
/- The body at a grid point, run whole: at the first point it assembles the weights in its scratch, at every point it multiplies
   its block of rows by the weights, chunk of 1280 columns by chunk. -/
module

public import proofs.«01_k».proof.Proof.Kernel.T1
public import Idealize.ShloMosaic.Lib.WritesUnit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point leaves in its output block -/

/-- An index of the scratch, and of a chunk's product, by numbers. -/
def iW (p q : ℕ) : S8960x1536.Idx := Fin.cons ⟨p % 8960, Nat.mod_lt _ (by decide)⟩ (Fin.cons ⟨q % 1536, Nat.mod_lt _ (by decide)⟩ finZeroElim)
def iC (p q : ℕ) : S256x1280.Idx := Fin.cons ⟨p % 256, Nat.mod_lt _ (by decide)⟩ (Fin.cons ⟨q % 1280, Nat.mod_lt _ (by decide)⟩ finZeroElim)

/-- Chunk `k` of the weights: rows `1280 k …`. -/
def chunk (W : Vec F S8960x1536 .bf16) (k : ℕ) : Vec F S1280x1536 .bf16 := fun z => W (iW (1280 * k + (z 0).val) (z 1).val)

/-- THE OUTPUT BLOCK of a point whose rows are `x1`: column `y 1` is in the product with chunk `y 1 / 1280`. -/
def outBlk (x1 : Vec F S256x1536 .bf16) (W : Vec F S8960x1536 .bf16) : Vec F S256x8960 .bf16 := fun y =>
  k0_pay7 x1 (chunk W ((y 1).val / 1280)) (iC (y 0).val ((y 1).val % 1280))

section
variable (arg4 : Memref sig .tc .vmem S256x1536 .bf16) (harg4 : arg4.IsWhole) (arg6 : Memref sig .tc .vmem S256x8960 .bf16) (arg7 : Memref sig .tc .vmem S8960x1536 .bf16) (harg7 : arg7.IsWhole)
  (x1 : Vec F S256x1536 .bf16) (W : Vec F S8960x1536 .bf16)

theorem rows_eq (off : Fin 2 → ℕ) (ho : off = ![0, 0]) (inb : ∀ a, off a + S256x1536.size a ≤ S256x1536.size a) :
    View.readAt (Elt F) arg4.view (Rect.unit (s := S256x1536) off S256x1536.size inb).toLoadRect (harg4.unread x1) = x1 := by
  subst ho
  funext z
  rw [View.readAt_apply, harg4.read_unread]
  congr 1
  funext a
  apply Fin.ext
  fin_cases a
  · show 0 + 1 * (z 0).val = (z 0).val; omega
  · show 0 + 1 * (z 1).val = (z 1).val; omega

theorem chunk_eq (k : ℕ) (hk : k < 7) (off : Fin 2 → ℕ) (ho : off = ![1280 * k, 0]) (inb : ∀ a, off a + S1280x1536.size a ≤ S8960x1536.size a) :
    View.readAt (Elt F) arg7.view (Rect.unit (s := S8960x1536) off S1280x1536.size inb).toLoadRect (harg7.unread W) = chunk W k := by
  subst ho
  funext z
  rw [View.readAt_apply, harg7.read_unread]
  unfold chunk
  congr 1
  funext a
  apply Fin.ext
  have h0 : (z 0).val < 1280 := (z 0).isLt
  have h1 : (z 1).val < 1536 := (z 1).isLt
  fin_cases a
  · show 1280 * k + 1 * (z 0).val = (1280 * k + (z 0).val) % 8960; omega
  · show 0 + 1 * (z 1).val = (z 1).val % 1536; omega

/-- Seven stores of the chunks' products leave the output block. -/
theorem read_chunks (f : arg6.view.ty.Contents (Elt F)) (P : ℕ → S256x1280.Idx → Elt F .bf16)
    (i0 : ∀ a, ![0, 0] a + S256x1280.size a ≤ S256x8960.size a) (i1 : ∀ a, ![0, 1280] a + S256x1280.size a ≤ S256x8960.size a)
    (i2 : ∀ a, ![0, 2560] a + S256x1280.size a ≤ S256x8960.size a) (i3 : ∀ a, ![0, 3840] a + S256x1280.size a ≤ S256x8960.size a)
    (i4 : ∀ a, ![0, 5120] a + S256x1280.size a ≤ S256x8960.size a) (i5 : ∀ a, ![0, 6400] a + S256x1280.size a ≤ S256x8960.size a)
    (i6 : ∀ a, ![0, 7680] a + S256x1280.size a ≤ S256x8960.size a) :
    arg6.view.read (Elt F) (arg6.view.writes (Elt F) f
      [⟨Rect.unit (s := S256x8960) ![0, 7680] S256x1280.size i6, P 6⟩, ⟨Rect.unit (s := S256x8960) ![0, 6400] S256x1280.size i5, P 5⟩,
       ⟨Rect.unit (s := S256x8960) ![0, 5120] S256x1280.size i4, P 4⟩, ⟨Rect.unit (s := S256x8960) ![0, 3840] S256x1280.size i3, P 3⟩,
       ⟨Rect.unit (s := S256x8960) ![0, 2560] S256x1280.size i2, P 2⟩, ⟨Rect.unit (s := S256x8960) ![0, 1280] S256x1280.size i1, P 1⟩,
       ⟨Rect.unit (s := S256x8960) ![0, 0] S256x1280.size i0, P 0⟩])
      = fun y => P ((y 1).val / 1280) (iC (y 0).val ((y 1).val % 1280)) := by
  funext y
  have h0 : (y 0).val < 256 := (y 0).isLt
  have h1 : (y 1).val < 8960 := (y 1).isLt
  have hit : ∀ k, (y 1).val / 1280 = k → ∀ a : Fin 2, (y a).val = ![0, 1280 * k] a + (iC (y 0).val ((y 1).val % 1280) a).val := by
    intro k hk a
    fin_cases a
    · show (y 0).val = 0 + (y 0).val % 256; omega
    · show (y 1).val = 1280 * k + (y 1).val % 1280 % 1280; omega
  by_cases c6 : (y 1).val / 1280 = 6
  · rw [View.read_writes_cons_unit_of_mem arg6.view f i6 _ _ y _ rfl (hit 6 c6), c6]
  rw [View.read_writes_cons_unit_of_not_mem arg6.view f i6 _ _ y rfl 1 (by show (y 1).val < 7680 ∨ 7680 + 1280 ≤ (y 1).val; omega)]
  by_cases c5 : (y 1).val / 1280 = 5
  · rw [View.read_writes_cons_unit_of_mem arg6.view f i5 _ _ y _ rfl (hit 5 c5), c5]
  rw [View.read_writes_cons_unit_of_not_mem arg6.view f i5 _ _ y rfl 1 (by show (y 1).val < 6400 ∨ 6400 + 1280 ≤ (y 1).val; omega)]
  by_cases c4 : (y 1).val / 1280 = 4
  · rw [View.read_writes_cons_unit_of_mem arg6.view f i4 _ _ y _ rfl (hit 4 c4), c4]
  rw [View.read_writes_cons_unit_of_not_mem arg6.view f i4 _ _ y rfl 1 (by show (y 1).val < 5120 ∨ 5120 + 1280 ≤ (y 1).val; omega)]
  by_cases c3 : (y 1).val / 1280 = 3
  · rw [View.read_writes_cons_unit_of_mem arg6.view f i3 _ _ y _ rfl (hit 3 c3), c3]
  rw [View.read_writes_cons_unit_of_not_mem arg6.view f i3 _ _ y rfl 1 (by show (y 1).val < 3840 ∨ 3840 + 1280 ≤ (y 1).val; omega)]
  by_cases c2 : (y 1).val / 1280 = 2
  · rw [View.read_writes_cons_unit_of_mem arg6.view f i2 _ _ y _ rfl (hit 2 c2), c2]
  rw [View.read_writes_cons_unit_of_not_mem arg6.view f i2 _ _ y rfl 1 (by show (y 1).val < 2560 ∨ 2560 + 1280 ≤ (y 1).val; omega)]
  by_cases c1 : (y 1).val / 1280 = 1
  · rw [View.read_writes_cons_unit_of_mem arg6.view f i1 _ _ y _ rfl (hit 1 c1), c1]
  rw [View.read_writes_cons_unit_of_not_mem arg6.view f i1 _ _ y rfl 1 (by show (y 1).val < 1280 ∨ 1280 + 1280 ≤ (y 1).val; omega)]
  have c0 : (y 1).val / 1280 = 0 := by omega
  rw [View.read_writes_cons_unit_of_mem arg6.view f i0 _ _ y _ rfl (hit 0 c0), c0]

/-- The seven products, whatever the run names them, leave the output block. -/
theorem out_eq (f : arg6.view.ty.Contents (Elt F)) (p0 p1 p2 p3 p4 p5 p6 : S256x1280.Idx → Elt F .bf16)
    (e0 : p0 = k0_pay7 x1 (chunk W 0)) (e1 : p1 = k0_pay7 x1 (chunk W 1)) (e2 : p2 = k0_pay7 x1 (chunk W 2)) (e3 : p3 = k0_pay7 x1 (chunk W 3))
    (e4 : p4 = k0_pay7 x1 (chunk W 4)) (e5 : p5 = k0_pay7 x1 (chunk W 5)) (e6 : p6 = k0_pay7 x1 (chunk W 6))
    (i0 : ∀ a, ![0, 0] a + S256x1280.size a ≤ S256x8960.size a) (i1 : ∀ a, ![0, 1280] a + S256x1280.size a ≤ S256x8960.size a)
    (i2 : ∀ a, ![0, 2560] a + S256x1280.size a ≤ S256x8960.size a) (i3 : ∀ a, ![0, 3840] a + S256x1280.size a ≤ S256x8960.size a)
    (i4 : ∀ a, ![0, 5120] a + S256x1280.size a ≤ S256x8960.size a) (i5 : ∀ a, ![0, 6400] a + S256x1280.size a ≤ S256x8960.size a)
    (i6 : ∀ a, ![0, 7680] a + S256x1280.size a ≤ S256x8960.size a) :
    arg6.view.read (Elt F) (arg6.view.writes (Elt F) f
      [⟨Rect.unit (s := S256x8960) ![0, 7680] S256x1280.size i6, p6⟩, ⟨Rect.unit (s := S256x8960) ![0, 6400] S256x1280.size i5, p5⟩,
       ⟨Rect.unit (s := S256x8960) ![0, 5120] S256x1280.size i4, p4⟩, ⟨Rect.unit (s := S256x8960) ![0, 3840] S256x1280.size i3, p3⟩,
       ⟨Rect.unit (s := S256x8960) ![0, 2560] S256x1280.size i2, p2⟩, ⟨Rect.unit (s := S256x8960) ![0, 1280] S256x1280.size i1, p1⟩,
       ⟨Rect.unit (s := S256x8960) ![0, 0] S256x1280.size i0, p0⟩]) = outBlk x1 W := by
  subst e0 e1 e2 e3 e4 e5 e6
  exact read_chunks arg6 f (fun k => k0_pay7 x1 (chunk W k)) i0 i1 i2 i3 i4 i5 i6
end

/-! ## The runs -/

section
variable (c : Dev nD) (i : grid0.Coords) (arg3 : Memref sig .tc .smem S378 .f32) (harg3 : arg3.IsWhole) (arg4 : Memref sig .tc .vmem S256x1536 .bf16) (harg4 : arg4.IsWhole) (arg5 : Memref sig .tc .vmem S378x128x128 .fp8e4m3) (harg5 : arg5.IsWhole) (arg6 : Memref sig .tc .vmem S256x8960 .bf16) (harg6 : arg6.IsWhole) (arg7 : Memref sig .tc .vmem S8960x1536 .bf16) (harg7 : arg7.IsWhole)
variable (x0 : Vec F S378 .f32) (x1 : Vec F S256x1536 .bf16) (x2 : Vec F S378x128x128 .fp8e4m3) (xt0 : TbBuf0 (F := F) c tbM0_0) (xt1 : TbBuf0 (F := F) c tbM0_1)

set_option maxHeartbeats 4000000 in
/-- THE BODY AT A LATER POINT: the scratch holds `W` and keeps it. -/
theorem run_later (W : Vec F S8960x1536 .bf16) (hc0 : ¬ cond0_0 i) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare W ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (outBlk x1 W) ∗ owns (c : Thread nD τ) arg7 fullShare W ∗ tbPt0 c tbM0_0 xt0 ∗ tbPt0 c tbM0_1 xt1) -∗ K ⟨⟩))
      ⊢ wp frame (wpE (defs₀ (F := F)) Variants.none c none) Set.univ (cc0_bsr_linear i tbM0_0 htbM0_0 tbM0_1 htbM0_1 arg3 harg3 arg4 harg4 arg5 harg5 arg6 harg6 arg7 harg7) K := by
  simp only [cc0_bsr_linear_eq_skeleton]; unfold cc0_bsr_linear_skel
  simp only [k0_part1_eq_skeleton]
  unfold owns
  iintro ⟨⟨%f0, %hf0, H0⟩, ⟨%f1, %hf1, H1⟩, ⟨%f2, %hf2, H2⟩, ⟨%d3, %f3, -, H3⟩, ⟨%fs0, %hfs0, HS0⟩, HT0, HT1, Hk⟩
  obtain rfl := harg3.eq_unread hf0; obtain rfl := harg4.eq_unread hf1; obtain rfl := harg5.eq_unread hf2; obtain rfl := harg7.eq_unread hfs0
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap
    · iexact H3
    ipureintro
    refine out_eq arg6 x1 W _ _ _ _ _ _ _ _ ?_ ?_ ?_ ?_ ?_ ?_ ?_ _ _ _ _ _ _ _
    · exact congrArg₂ k0_pay7 (rows_eq arg4 harg4 x1 _ rfl _) (chunk_eq arg7 harg7 W 0 (by decide) _ rfl _)
    · exact congrArg₂ k0_pay8 (rows_eq arg4 harg4 x1 _ rfl _) (chunk_eq arg7 harg7 W 1 (by decide) _ rfl _)
    · exact congrArg₂ k0_pay9 (rows_eq arg4 harg4 x1 _ rfl _) (chunk_eq arg7 harg7 W 2 (by decide) _ rfl _)
    · exact congrArg₂ k0_pay10 (rows_eq arg4 harg4 x1 _ rfl _) (chunk_eq arg7 harg7 W 3 (by decide) _ rfl _)
    · exact congrArg₂ k0_pay1 (rows_eq arg4 harg4 x1 _ rfl _) (chunk_eq arg7 harg7 W 4 (by decide) _ rfl _)
    · exact congrArg₂ k0_pay2 (rows_eq arg4 harg4 x1 _ rfl _) (chunk_eq arg7 harg7 W 5 (by decide) _ rfl _)
    · exact congrArg₂ k0_pay3 (rows_eq arg4 harg4 x1 _ rfl _) (chunk_eq arg7 harg7 W 6 (by decide) _ rfl _)
  isplitl [HS0]
  · iexists _; isplitr; · ipureintro; exact harg7.read_unread _
    iexact HS0
  isplitl [HT0]; · iexact HT0
  iexact HT1

set_option maxHeartbeats 4000000 in
/-- THE BODY AT THE FIRST POINT: the scratch, whatever it held, ends at the weights. -/
theorem run_first (hg : Good (rpOf c xt0) (ciOf c xt1)) (hc0 : cond0_0 i) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (outBlk x1 (weights (rpOf c xt0) (ciOf c xt1) x0 x2)) ∗ owns (c : Thread nD τ) arg7 fullShare (weights (rpOf c xt0) (ciOf c xt1) x0 x2) ∗ tbPt0 c tbM0_0 xt0 ∗ tbPt0 c tbM0_1 xt1) -∗ K ⟨⟩))
      ⊢ wp frame (wpE (defs₀ (F := F)) Variants.none c none) Set.univ (cc0_bsr_linear i tbM0_0 htbM0_0 tbM0_1 htbM0_1 arg3 harg3 arg4 harg4 arg5 harg5 arg6 harg6 arg7 harg7) K := by
  simp only [cc0_bsr_linear_eq_skeleton]; unfold cc0_bsr_linear_skel
  simp only [k0_part1_eq_skeleton]
  unfold owns
  iintro ⟨⟨%f0, %hf0, H0⟩, ⟨%f1, %hf1, H1⟩, ⟨%f2, %hf2, H2⟩, ⟨%d3, %f3, -, H3⟩, ⟨%ds0, %fs0, -, HS0⟩, HT0, HT1, Hk⟩
  obtain rfl := harg3.eq_unread hf0; obtain rfl := harg4.eq_unread hf1; obtain rfl := harg5.eq_unread hf2
  sl_exec (disch := first | sl_exact hc0)
  iapply (t1_loop c i arg3 harg3 arg4 harg4 arg5 harg5 arg6 harg6 arg7 harg7 hc0 x0 x2 xt0 xt1 hg) $$ [H0 H2 HT0 HT1 HS0]
  · isplitl [H0]; · iexact H0
    isplitl [H2]; · iexact H2
    isplitl [HT0]; · iexact HT0
    isplitl [HT1]; · iexact HT1
    iexists fs0
    isplitr
    swap
    · iexact HS0
    ipureintro; exact rowsDone_zero _
  iintro %u ⟨H0, H2, HT0, HT1, ⟨%fs, %hP, HS0⟩⟩
  rw [trips1] at hP
  obtain rfl := harg7.eq_unread (eq_weights _ hP)
  generalize hW : weights (rpOf c xt0) (ciOf c xt1) x0 x2 = W
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap
    · iexact H3
    ipureintro
    refine out_eq arg6 x1 W _ _ _ _ _ _ _ _ ?_ ?_ ?_ ?_ ?_ ?_ ?_ _ _ _ _ _ _ _
    · exact congrArg₂ k0_pay7 (rows_eq arg4 harg4 x1 _ rfl _) (chunk_eq arg7 harg7 W 0 (by decide) _ rfl _)
    · exact congrArg₂ k0_pay8 (rows_eq arg4 harg4 x1 _ rfl _) (chunk_eq arg7 harg7 W 1 (by decide) _ rfl _)
    · exact congrArg₂ k0_pay9 (rows_eq arg4 harg4 x1 _ rfl _) (chunk_eq arg7 harg7 W 2 (by decide) _ rfl _)
    · exact congrArg₂ k0_pay10 (rows_eq arg4 harg4 x1 _ rfl _) (chunk_eq arg7 harg7 W 3 (by decide) _ rfl _)
    · exact congrArg₂ k0_pay1 (rows_eq arg4 harg4 x1 _ rfl _) (chunk_eq arg7 harg7 W 4 (by decide) _ rfl _)
    · exact congrArg₂ k0_pay2 (rows_eq arg4 harg4 x1 _ rfl _) (chunk_eq arg7 harg7 W 5 (by decide) _ rfl _)
    · exact congrArg₂ k0_pay3 (rows_eq arg4 harg4 x1 _ rfl _) (chunk_eq arg7 harg7 W 6 (by decide) _ rfl _)
  isplitl [HS0]
  · iexists _; isplitr; · ipureintro; exact harg7.read_unread _
    iexact HS0
  isplitl [HT0]; · iexact HT0
  iexact HT1
end

end Cert.Proof.Kernel

end
-- ==== Proof.Kernel.Dats.lean ====
/- The pipeline's proof data: what each buffer holds after each grid point, the body obligation, the launch and the frame. -/
module

public import proofs.«01_k».proof.Proof.Kernel.Run
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is asked of the tables the launch memory holds. -/
abbrev GoodM : Prop := Good (rpOf (0 : Dev nD) (tbl m 0)) (ciOf (0 : Dev nD) (tbl m 1))

/-- The weights, from the tables and the blocks of scales and weights that the first point finds. -/
def weightsM (hO : Ok m) (c : Dev nD) : Vec F S8960x1536 .bf16 :=
  weights (rpOf c (tbl m 0)) (ciOf c (tbl m 1)) (iblk m hO c 0 ⟨0, by rw [show (cfgM m hO).N = 36 from N_0]; decide⟩)
    (iblk m hO c 2 ⟨0, by rw [show (cfgM m hO).N = 36 from N_0]; decide⟩)

/-- The region invariant before position `n`: before the first point every scratch at anything; afterwards the scratch at
    the weights and the generator register at some state; the tables' halves throughout. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (weightsM m hO c)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare (weightsM m hO c)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare (weightsM m hO c)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at the product's block; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outBlk (iblk m hO c 1 t) (weightsM m hO c)
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outBlk (iblk m hO c 1 t) (weightsM m hO c) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 3200000 in
/-- The body at any point: the inputs' memrefs hold their blocks; the run of the first point, or of a later one, applies. -/
theorem sound_body (hO : Ok m) (hG : GoodM m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3]
  rw [show (dats m hO 0 c).Φ t.succ = PhiS m hO c (t.val + 1) t.isLt from rfl, PhiS_succ, PhiT0_eq]
  have hN : t.val < 36 := lt_of_lt_of_eq t.isLt (show (cfgM m hO).N = 36 from N_0)
  by_cases hz : t.val = 0
  · rw [PhiS_castSucc m hO c t, PhiS_zero m hO c _ _ hz, PhiT0_eq, PhiA0_eq]
    have et : t = ⟨0, by rw [show (cfgM m hO).N = 36 from N_0]; decide⟩ := Fin.ext hz
    have eW : weightsM m hO c = weights (rpOf c (tbl m 0)) (ciOf c (tbl m 1)) (iblk m hO c 0 t) (iblk m hO c 2 t) := by rw [et]; rfl
    rw [eW]
    iintro ⟨⟨⟨HS0, Hg⟩, ⟨HT0, HT1⟩⟩, Ho, ⟨%d0, H0⟩, ⟨%d1, H1⟩, ⟨%d2, H2⟩, ⟨%d3, H3⟩⟩
    iapply (run_first c (grid0.coords t) _ _ _ _ _ _ _ _ _ _ (iblk m hO c 0 t) (iblk m hO c 1 t) (iblk m hO c 2 t) (tbl m 0) (tbl m 1) hG ((hcond0_0 t).mpr (by omega)) _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, H3, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    isplitl [H2]; · iexact H2
    iexact H3
  · rw [PhiS_castSucc m hO c t, PhiS_pos m hO c _ _ hz, PhiT0_eq]
    iintro ⟨⟨⟨HS0, Hg⟩, ⟨HT0, HT1⟩⟩, Ho, ⟨%d0, H0⟩, ⟨%d1, H1⟩, ⟨%d2, H2⟩, ⟨%d3, H3⟩⟩
    iapply (run_later c (grid0.coords t) _ _ _ _ _ _ _ _ _ _ (iblk m hO c 0 t) (iblk m hO c 1 t) (iblk m hO c 2 t) (tbl m 0) (tbl m 1) (weightsM m hO c) (fun h => hz (by have := (hcond0_0 t).mp h; omega)) _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, H3, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    isplitl [H2]; · iexact H2
    iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hG : GoodM m) (c : Dev nD) : BodyObligation (dats (F := F) m hO 0 c) (defs₀ (F := F)) Variants.none () Set.univ := fun t => by
  rw [bigSep_W0, bigSep_W0, defs₀_row m hO]
  exact triple_restated (sound_body m hO hG c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 36 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) (hG : GoodM m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO hG c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) (hG : GoodM m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO hG)

/-- `frame` without the counters: the argument arrays end unchanged. -/
theorem unchanged (hO : Ok m) (hG : GoodM m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO hG)

/-- THE FRAME: every run ends, with the argument arrays unchanged and every counter at zero. -/
theorem frame (hO : Ok m) (hG : GoodM m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hG) ((θ_run defs _ _).mono (fun _ h => h.2) (run_main_quiescent m ρ hO hG))

end Cert.Proof.Kernel

end
-- ==== Proof.PreFacts.lean ====
/- What the precondition says of the two tables, in numbers: the row pointers start at 0, never fall and stay at 378 or below;
   the column of every block before the last pointer is below 12. -/
module

public import proofs.«01_k».proof.Proof.Gen.Pre_block_csr
public import Idealize.ShloMosaic.Lib.Claim

@[expose] public section

noncomputable section

namespace Cert.Proof.PreFacts

open Cert Cert.Pre_block_csr Idealize.ShloMosaic

variable {F : FTy → Type} [FloatOps F]

/-- Indices of the tables by number. -/
def i71 (n : ℕ) : S71.Idx := fun a => ⟨n % 71, by obtain rfl : a = 0 := Subsingleton.elim _ _; exact Nat.mod_lt _ (by decide)⟩
def i378 (n : ℕ) : S378.Idx := fun a => ⟨n % 378, by obtain rfl : a = 0 := Subsingleton.elim _ _; exact Nat.mod_lt _ (by decide)⟩
/-- An index of the precondition's result: a row and a block. -/
def iRE (r e : ℕ) : S70x378.Idx :=
  Fin.cons ⟨r % 70, Nat.mod_lt _ (by decide)⟩ (Fin.cons ⟨e % 378, Nat.mod_lt _ (by decide)⟩ finZeroElim)

theorem andi_ofBool (a b : Bool) : IntOp.andi (BitVec.ofBool a) (BitVec.ofBool b) = BitVec.ofBool (a && b) := by
  cases a <;> cases b <;> decide
theorem ori_ofBool (a b : Bool) : IntOp.ori (BitVec.ofBool a) (BitVec.ofBool b) = BitVec.ofBool (a || b) := by
  cases a <;> cases b <;> decide
theorem ofBool_eq_one (b : Bool) : (BitVec.ofBool b = 1#1) ↔ b = true := by cases b <;> decide

theorem ext71 {p q : S71.Idx} (h : (p 0).val = (q 0).val) : p = q := funext fun a => by
  obtain rfl : a = 0 := Subsingleton.elim _ _
  exact Fin.ext h
theorem ext378 {p q : S378.Idx} (h : (p 0).val = (q 0).val) : p = q := funext fun a => by
  obtain rfl : a = 0 := Subsingleton.elim _ _
  exact Fin.ext h

/-- The precondition at one row and one block, as comparisons of words. -/
theorem words [Facts] (x : FVec F S24x384x1536 .bf16) (rp : IVec S71 32) (ci : IVec S378 32) (b : FVec F S378x128x128 .fp8e4m3) (s : FVec F S378 .f32)
    (h : Pre_block_csr.fn x rp ci b s = fun _ => 1#1) (r e : ℕ) (hr : r < 70) (he : e < 378) :
    rp (i71 0) = 0#32 ∧ (rp (i71 70)).sle 378#32 = true ∧ (rp (i71 r)).sle (rp (i71 (r + 1))) = true
      ∧ ((rp (i71 70)).sle (BitVec.ofNat 32 e) = true ∨ ((0#32).sle (ci (i378 e)) = true ∧ (ci (i378 e)).slt 12#32 = true)) := by
  have e' := congrFun h (iRE r e)
  simp only [Pre_block_csr.fn, Pre_block_csr.fn_part1, andi, ori, cmpi, iotaInDim, broadcastInDim, constantI, extractStridedSlice, IntOp.cmpi, andi_ofBool, ori_ofBool, ofBool_eq_one, Bool.and_eq_true, Bool.or_eq_true, beq_iff_eq] at e'
  obtain ⟨⟨⟨h1, h2⟩, h3⟩, h45⟩ := e'
  refine ⟨?_, ?_, ?_, h45.imp (fun h4 => ?_) (fun ⟨h4, h5⟩ => ⟨?_, ?_⟩)⟩
  · exact (congrArg rp (ext71 (by show 0 % 71 = 0 + 0; rfl))).trans h1
  · exact (congrArg (fun z => (rp z).sle 378#32) (ext71 (by show 70 % 71 = 70 + 0; rfl))).trans h2
  · exact (congrArg₂ (fun z z' => (rp z).sle (rp z')) (ext71 (by show r % 71 = 0 + r % 70; omega)) (ext71 (by show (r + 1) % 71 = 1 + r % 70; omega))).trans h3
  · exact (congrArg₂ (fun z (n : ℕ) => (rp z).sle (BitVec.ofNat 32 n)) (ext71 (by show 70 % 71 = 70 + 0; rfl)) (Nat.mod_eq_of_lt he).symm).trans h4
  · exact (congrArg (fun z => (0#32).sle (ci z)) (ext378 (by show e % 378 = e % 378; rfl))).trans h4
  · exact (congrArg (fun z => (ci z).slt 12#32) (ext378 (by show e % 378 = e % 378; rfl))).trans h5

/-- The precondition in numbers. -/
structure Nums (rp : S71.Idx → BitVec 32) (ci : S378.Idx → BitVec 32) : Prop where
  start : (rp (i71 0)).toNat = 0
  mono : ∀ r, r < 70 → (rp (i71 r)).toNat ≤ (rp (i71 (r + 1))).toNat
  last : (rp (i71 70)).toNat ≤ 378
  cols : ∀ e, e < (rp (i71 70)).toNat → (ci (i378 e)).toNat < 12

theorem toInt_eq (x : BitVec 32) (h : 0 ≤ x.toInt) : x.toInt = x.toNat := by
  rw [BitVec.toInt_eq_toNat_cond] at h ⊢
  split at h <;> split <;> omega

theorem nums [Facts] (x : FVec F S24x384x1536 .bf16) (rp : IVec S71 32) (ci : IVec S378 32) (b : FVec F S378x128x128 .fp8e4m3) (s : FVec F S378 .f32)
    (h : Pre_block_csr.fn x rp ci b s = fun _ => 1#1) : Nums rp ci := by
  have w := words x rp ci b s h
  have h0 : (rp (i71 0)).toInt = 0 := by rw [(w 0 0 (by decide) (by decide)).1]; decide
  have hl : (rp (i71 70)).toInt ≤ 378 := by
    exact of_decide_eq_true (w 0 0 (by decide) (by decide)).2.1
  have hm : ∀ r, r < 70 → (rp (i71 r)).toInt ≤ (rp (i71 (r + 1))).toInt := fun r hr => by
    have := (w r 0 hr (by decide)).2.2.1
    simpa only [BitVec.sle, decide_eq_true_eq] using this
  have hp : ∀ r, r ≤ 70 → 0 ≤ (rp (i71 r)).toInt := fun r => by
    induction r with
    | zero => intro _; rw [h0]
    | succ r ih => intro hr; exact (ih (by omega)).trans (hm r (by omega))
  have hl' := toInt_eq _ (hp 70 (by decide))
  refine ⟨?_, fun r hr => ?_, ?_, fun e he => ?_⟩
  · have := toInt_eq _ (hp 0 (by decide)); omega
  · have h1 := toInt_eq _ (hp r (by omega)); have h2 := toInt_eq _ (hp (r + 1) (by omega)); have := hm r hr; omega
  · have := toInt_eq _ (hp 70 (by decide)); omega
  · have c := (w 0 e (by decide) (by omega)).2.2.2
    have hne : ¬ (rp (i71 70)).sle (BitVec.ofNat 32 e) = true := fun h => by
      have h' : (rp (i71 70)).toInt ≤ (BitVec.ofNat 32 e).toInt := of_decide_eq_true h
      rw [BitVec.toInt_eq_toNat_of_lt (x := BitVec.ofNat 32 e) (by rw [BitVec.toNat_ofNat]; omega), BitVec.toNat_ofNat] at h'
      omega
    obtain ⟨c1, c2⟩ := c.resolve_left hne
    have c1' : (0 : ℤ) ≤ (ci (i378 e)).toInt := of_decide_eq_true c1
    have c2' : (ci (i378 e)).toInt < 12 := of_decide_eq_true c2
    have := toInt_eq _ c1'
    omega

end Cert.Proof.PreFacts

end
-- ==== Proof.Kernel.Pre.lean ====
/- The precondition gives what the frame asks of the tables. -/
module

public import proofs.«01_k».proof.Proof.Kernel.Dats
public import proofs.«01_k».proof.Proof.PreFacts
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's index map reads a table: the pipeline's side condition of them is empty. -/
theorem ok : Ok m := trivial

/-- The tables the body is handed are the launch memory's arguments. -/
theorem rp_eq (c : Dev nD) : rpOf c (tbl m 0) = m ((c : Thread nD τ).loc main_arg1) := by
  obtain rfl : c = 0 := Subsingleton.elim _ _
  exact V_main_arg1 m 0
theorem ci_eq (c : Dev nD) : ciOf c (tbl m 1) = m ((c : Thread nD τ).loc main_arg2) := by
  obtain rfl : c = 0 := Subsingleton.elim _ _
  exact V_main_arg2 m 0

theorem good_of_nums (h : Cert.Proof.PreFacts.Nums (m (((0 : Dev nD) : Thread nD τ).loc main_arg1)) (m (((0 : Dev nD) : Thread nD τ).loc main_arg2))) : GoodM m := by
  unfold GoodM
  rw [rp_eq m 0, ci_eq m 0]
  exact ⟨h.start, h.mono, h.last, h.cols⟩

end Cert.Proof.Kernel

end
-- ==== Proof.KernelIdeal.Kit.lean ====
/- The kernel's one launch seen from outside the body: the host lines before and after it, the prefetched tables, the
   schedule of the four windows, what each input window holds at a grid point, the frame claim read off a run of the
   launch, and the branch condition of the body in closed form (it holds at the first grid point only). -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameSuffix
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg4)) is fetched at the first point only, at any contents of the tables (its index map reads none). -/
theorem fetch0_0 (a : (pcfg0 (F := F)).Adm) : ∀ t : Fin (cfg0 a).N, ((cfg0 a).win 0).fetch t = true ↔ t.val % 36 = 0 :=
  (fun t => Pipeline.Window.fetchOf_const cc0_transform_0 (fun _ _ => rfl) (n := 36) (by decide) t : ∀ t : Fin grid0.N, Pipeline.Window.fetchOf grid0 false cc0_transform_0 t = true ↔ t.val % 36 = 0)
/-- Window 1 (operand 3 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%arg3)) is fetched at the first point only, at any contents of the tables (its index map reads none). -/
theorem fetch0_2 (a : (pcfg0 (F := F)).Adm) : ∀ t : Fin (cfg0 a).N, ((cfg0 a).win 2).fetch t = true ↔ t.val % 36 = 0 :=
  (fun t => Pipeline.Window.fetchOf_const cc0_transform_2 (fun _ _ => rfl) (n := 36) (by decide) t : ∀ t : Fin grid0.N, Pipeline.Window.fetchOf grid0 false cc0_transform_2 t = true ↔ t.val % 36 = 0)
/-- Window 3 (result 0 (%1)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_bsr_linear (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S71 .i32 := Memref.whole main_arg1
abbrev htbM0_0 : tbM0_0.IsWhole := Memref.isWhole_whole _
abbrev tbM0_1 : Memref sig .tc .smem S378 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      ((h c).1 2).trans (((dats 0 c).arrAt_in 2 rfl _).trans ((hA c 2).trans (V_main_arg3 m c))),
      ((h c).1 0).trans (((dats 0 c).arrAt_in 0 rfl _).trans ((hA c 0).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, e0]
    word_cmp
   : ∀ t : Fin grid0.N, cond0_0 (grid0.coords t) ↔ t.val % 36 = 0)

/-! ## The kernel body on any staging memrefs: a subtype the run finds -/

/-- One staging buffer of output window 3, through which its contents are stated (`View.read_writes_of_cover`: the
    choice does not matter). -/
abbrev VO0_3 : View sig .tc .vmem S256x8960 .bf16 := (Memref.whole cc0_stg3_0 : Memref sig .tc .vmem S256x8960 .bf16).view
/-- Each window's current staging memref at point `t`, spelled as the pipeline passes it (`bodyAt0`), and its wholeness. -/
abbrev ms0_0 (hO : Ok m) (t : Fin (cfgM m hO).N) : Memref sig .tc .smem S378 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1536 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S378x128x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x8960 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S8960x1536 .bf16 := Memref.whole cc0_scratch0
/-- The scratch `arg7` the kernel carries between points, as a view: what it holds is stated through it. -/
abbrev VS0_0 : View sig .tc .vmem S8960x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.KernelIdeal

end
-- ==== Proof.KernelIdeal.Words.lean ====
/- Word arithmetic of the body: the offsets its loads and stores compute and the trip counts of its loops, as plain
   numbers, and the side conditions the body assumes of the words it reads, all from three facts about those words: the
   row pointers `lo ≤ hi ≤ 378` of a block row and a block column below 12. -/
module

public import proofs.«01_k».proof.Proof.KernelIdeal.Kit
public import Idealize.ShloMosaic.Lib.LoopRemainder

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

omit [FloatOps F] in
/-- The bound of the inner loop is the row's end: the quotient by one and the product by one change nothing. -/
theorem ub2 (lo hi : BitVec 32) : (k0_t2_loop lo hi).ub = hi := by
  show Scalar.addi lo (Scalar.muli (Scalar.divsi (Scalar.subi hi lo) 1#32) 1#32) = hi
  rw [Scalar.muli_divsi_one]
  show lo + (hi - lo) = hi
  rw [BitVec.add_comm]; exact BitVec.sub_add_cancel hi lo

/-- A word below 2^31 read signed is its value. -/
theorem toInt_small (x : BitVec 32) (h : x.toNat < 2 ^ 31) : x.toInt = x.toNat := by
  rw [BitVec.toInt_eq_toNat_cond]; split <;> omega

/-- The inner loop makes as many trips as the row has blocks. -/
theorem trips2 (lo hi : BitVec 32) (h : lo.toNat ≤ hi.toNat) (hb : hi.toNat ≤ 378) :
    (k0_t2_loop lo hi).trips = hi.toNat - lo.toNat := by
  show Scf.trips lo (k0_t2_loop lo hi).ub 1#32 = _
  rw [ub2]; unfold Scf.trips
  rw [toInt_small lo (by omega), toInt_small hi (by omega), show (1#32 : BitVec 32).toInt = 1 from by decide]
  omega

theorem trips1 : k0_t1_loop.trips = 70 := by decide

theorem lt70 (k : Fin k0_t1_loop.trips) : k.val < 70 := lt_of_lt_of_eq k.isLt trips1

theorem iv1 (k : ℕ) (h : k < 70) : (Scf.iv 0#32 1#32 k).toNat = k := by
  unfold Scf.iv
  simp only [BitVec.toNat_add, BitVec.toNat_mul, BitVec.toNat_ofNat]; omega

theorem iv2 (lo : BitVec 32) (k : ℕ) (h : lo.toNat + k ≤ 378) : (Scf.iv lo 1#32 k).toNat = lo.toNat + k := by
  unfold Scf.iv
  simp only [BitVec.toNat_add, BitVec.toNat_mul, BitVec.toNat_ofNat]; omega

/-- The rows the outer trip `r` clears start at row `128 r`. -/
theorem off1_eq (r : Fin k0_t1_loop.trips) : k0_off1 r = ![128 * r.val, 0] := by
  have h := lt70 r
  show ![(Scf.iv 0#32 1#32 r.val * 128#32).toNat, 0] = _
  rw [BitVec.toNat_mul, iv1 _ h]
  simp only [BitVec.toNat_ofNat]
  congr 1; omega

theorem off2_eq (r : Fin k0_t1_loop.trips) : k0_off2 r = ![r.val] := by
  show ![(Scf.iv 0#32 1#32 r.val).toNat] = _
  rw [iv1 _ (lt70 r)]

theorem off3_eq (r : Fin k0_t1_loop.trips) : k0_off3 r = ![r.val + 1] := by
  have h := lt70 r
  show ![(Scf.iv 0#32 1#32 r.val + 1#32).toNat] = _
  rw [BitVec.toNat_add, iv1 _ h]
  simp only [BitVec.toNat_ofNat]
  congr 1; omega

section
variable (lo hi : BitVec 32) (h : lo.toNat ≤ hi.toNat) (hb : hi.toNat ≤ 378) (k : Fin (k0_t2_loop lo hi).trips)
include h hb

theorem lt2 : lo.toNat + k.val < hi.toNat := by
  have := lt_of_lt_of_eq k.isLt (trips2 lo hi h hb); omega

theorem off4_eq : k0_off4 lo hi k = ![lo.toNat + k.val] := by
  have := lt2 lo hi h hb k
  show ![(Scf.iv lo 1#32 k.val).toNat] = _
  rw [iv2 _ _ (by omega)]

theorem off5_eq : k0_off5 lo hi k = ![lo.toNat + k.val] := by
  have := lt2 lo hi h hb k
  show ![(Scf.iv lo 1#32 k.val).toNat] = _
  rw [iv2 _ _ (by omega)]

theorem off6_eq : k0_off6 lo hi k = ![lo.toNat + k.val, 0, 0] := by
  have := lt2 lo hi h hb k
  show ![(Scf.iv lo 1#32 k.val).toNat, 0, 0] = _
  rw [iv2 _ _ (by omega)]

end

/-- The block the inner trip stores starts at row `128 r` and column `128 w`, `w` the block column read. -/
theorem off7_eq (r : Fin k0_t1_loop.trips) (w : BitVec 32) (hw : w.toNat < 12) :
    k0_off7 r w = ![128 * r.val, 128 * w.toNat] := by
  have h := lt70 r
  show ![(Scf.iv 0#32 1#32 r.val * 128#32).toNat, (w * 128#32).toNat] = _
  rw [BitVec.toNat_mul, iv1 _ h, BitVec.toNat_mul]
  simp only [BitVec.toNat_ofNat]
  congr 1
  · omega
  · congr 1; omega

/-- What the body assumes of a row's two pointers. -/
theorem chk1_of (i : grid0.Coords) (lo hi : BitVec 32) (h : lo.toNat ≤ hi.toNat) (hb : hi.toNat ≤ 378) : k0_chk1 i lo hi := by
  have rem (k : Fin (k0_t3_loop lo hi).trips) : False := Scf.rem_no_trip lo (Scalar.subi hi lo) k
  refine ⟨fun _ => ?_, fun k _ a => ?_, fun k _ a => ?_, fun k _ a => ?_, fun _ => Scf.rem_ok lo (Scalar.subi hi lo), fun k => (rem k).elim,
    fun k => (rem k).elim, fun k => (rem k).elim⟩
  · have e := trips2 lo hi h hb
    refine ⟨by show 0 < (1#32 : BitVec 32).toInt; decide, ?_⟩
    show lo.toInt + ((k0_t2_loop lo hi).trips : ℤ) * (1#32 : BitVec 32).toInt < _
    rw [e, toInt_small lo (by omega), show (1#32 : BitVec 32).toInt = 1 from by decide]
    omega
  · have := lt2 lo hi h hb k
    rw [off4_eq lo hi h hb]; fin_cases a; show lo.toNat + k.val + 1 ≤ 378; omega
  · have := lt2 lo hi h hb k
    rw [off5_eq lo hi h hb]; fin_cases a; show lo.toNat + k.val + 1 ≤ 378; omega
  · have := lt2 lo hi h hb k
    rw [off6_eq lo hi h hb]; fin_cases a
    · show lo.toNat + k.val + 1 ≤ 378; omega
    · show 0 + 128 ≤ 128; omega
    · show 0 + 128 ≤ 128; omega

/-- What the body assumes of a block column. -/
theorem chk2_of (i : grid0.Coords) (r : Fin k0_t1_loop.trips) (w : BitVec 32) (hw : w.toNat < 12) : k0_chk2 i r w := by
  have hr := lt70 r
  refine ⟨fun _ => ?_, fun _ a => ?_, fun _ hinb => ?_⟩
  · show 128 ∣ (w * 128#32).toNat
    rw [BitVec.toNat_mul]; simp only [BitVec.toNat_ofNat]; omega
  · rw [off7_eq r w hw]; fin_cases a
    · show 128 * r.val + 128 ≤ 8960; omega
    · show 128 * w.toNat + 128 ≤ 1536; omega
  · refine Affine.packed_dvd (by decide) ?_ ?_
    · rw [off7_eq r w hw]; show 2 ∣ 128 * r.val; omega
    · show 2 ∣ 128; decide

end Cert.Proof.KernelIdeal

end
-- ==== Proof.KernelIdeal.Fold.lean ====
/- What the body assembles in its scratch at the first grid point, entry by entry, as a recursion over the blocks of a
   block row: a later block of the same column overwrites an earlier one, an entry no block covers is zero. And the two
   invariants of the assembly, with the store of one trip carrying each to the next trip. -/
module

public import proofs.«01_k».proof.Proof.KernelIdeal.Words
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- After `n` of the positions `lo, lo + 1, …`, in order: the value at the last one that hits, `z` if none does. -/
def lastHit {α : Type} (hit : ℕ → Prop) [DecidablePred hit] (val : ℕ → α) (z : α) (lo : ℕ) : ℕ → α
  | 0 => z
  | n + 1 => if hit (lo + n) then val (lo + n) else lastHit hit val z lo n

/-! ## Indices by number -/

def i71 (n : ℕ) : S71.Idx := fun a => ⟨n % 71, by obtain rfl : a = 0 := Subsingleton.elim _ _; exact Nat.mod_lt _ (by decide)⟩
def i378 (n : ℕ) : S378.Idx := fun a => ⟨n % 378, by obtain rfl : a = 0 := Subsingleton.elim _ _; exact Nat.mod_lt _ (by decide)⟩
def i128 (p q : ℕ) : S128x128.Idx :=
  Fin.cons ⟨p % 128, Nat.mod_lt _ (by decide)⟩ (Fin.cons ⟨q % 128, Nat.mod_lt _ (by decide)⟩ finZeroElim)
def iblk3 (e : ℕ) (z : S1x128x128.Idx) : S378x128x128.Idx :=
  Fin.cons ⟨e % 378, Nat.mod_lt _ (by decide)⟩ (Fin.cons ⟨(z 1).val, (z 1).isLt⟩ (Fin.cons ⟨(z 2).val, (z 2).isLt⟩ finZeroElim))

section
variable (rp : S71.Idx → BitVec 32) (ci : S378.Idx → BitVec 32) (x0 : Vec F S378 .f32) (x2 : Vec F S378x128x128 .fp8e4m3)

/-- Row pointer `r` and block column `e` as numbers. -/
abbrev rpN (r : ℕ) : ℕ := (rp (i71 r)).toNat
abbrev ciN (e : ℕ) : ℕ := (ci (i378 e)).toNat

/-- What the tables hold: row pointers that start at 0, never fall and end at 378 or below; the column of every block before the last pointer
    below 12. -/
structure Good : Prop where
  start : rpN rp 0 = 0
  mono : ∀ r, r < 70 → rpN rp r ≤ rpN rp (r + 1)
  last : rpN rp 70 ≤ 378
  cols : ∀ e, e < rpN rp 70 → ciN ci e < 12

variable {rp ci} in
theorem Good.le_of_le (h : Good rp ci) {r s : ℕ} (hrs : r ≤ s) (hs : s ≤ 70) : rpN rp r ≤ rpN rp s := by
  induction s with
  | zero => obtain rfl : r = 0 := by omega
            exact le_refl _
  | succ s ih =>
    rcases Nat.lt_or_ge r (s + 1) with h1 | h1
    · exact (ih (by omega) (by omega)).trans (h.mono s (by omega))
    · obtain rfl : r = s + 1 := by omega
      exact le_refl _

variable {rp ci} in
theorem Good.le378 (h : Good rp ci) {r : ℕ} (hr : r ≤ 70) : rpN rp r ≤ 378 := (h.le_of_le hr (le_refl _)).trans h.last

/-- Entry (p, q) of block `e`, scaled: the payload of the inner trip's store. -/
def cellVal (e p q : ℕ) : Elt F .bf16 := k0_pay5 (x0 (i378 e)) (fun z => x2 (iblk3 e z)) (i128 p q)

/-- The zero the rows are cleared to. -/
def zeroVal : Elt F .bf16 := Scalar.ofBits .bf16 0x0000#16

/-- Entry `y` of the scratch after the first `n` blocks of its block row. -/
def cell (y : S8960x1536.Idx) (n : ℕ) : Elt F .bf16 :=
  lastHit (fun e => ciN ci e = (y 1).val / 128) (fun e => cellVal x0 x2 e ((y 0).val % 128) ((y 1).val % 128)) zeroVal
    (rpN rp ((y 0).val / 128)) n

/-- THE SCRATCH AFTER THE FIRST GRID POINT: the dense weights. -/
def weights : Vec F S8960x1536 .bf16 :=
  fun y => cell rp ci x0 x2 y (rpN rp ((y 0).val / 128 + 1) - rpN rp ((y 0).val / 128))

/-- Before outer trip `r`: the rows of the block rows before `r` are done. -/
def RowsDone (r : ℕ) (w : Vec F S8960x1536 .bf16) : Prop := ∀ y, (y 0).val < 128 * r → w y = weights rp ci x0 x2 y

/-- Before inner trip `n` of outer trip `r`: moreover the rows of block row `r` are as `n` of its blocks leave them. -/
def RowAt (r n : ℕ) (w : Vec F S8960x1536 .bf16) : Prop :=
  RowsDone rp ci x0 x2 r w ∧ ∀ y, 128 * r ≤ (y 0).val → (y 0).val < 128 * r + 128 → w y = cell rp ci x0 x2 y n

theorem pay4_apply (x : S128x1536.Idx) : k0_pay4 (F := F) x = zeroVal := by
  unfold k0_pay4 zeroVal; rfl

variable {rp ci x0 x2}

/-- The outer trip clears its rows. -/
theorem rowAt_zero (arg7 : Memref sig .tc .vmem S8960x1536 .bf16) (f : arg7.view.ty.Contents (Elt F)) (r : Fin k0_t1_loop.trips)
    (inb : ∀ a, k0_off1 r a + S128x1536.size a ≤ S8960x1536.size a)
    (h : RowsDone rp ci x0 x2 r.val (arg7.view.read (Elt F) f)) :
    RowAt rp ci x0 x2 r.val 0 (arg7.view.read (Elt F) (arg7.view.writes (Elt F) f [⟨Rect.unit (k0_off1 r) S128x1536.size inb, k0_pay4⟩])) := by
  refine ⟨fun y hy => ?_, fun y hy hy' => ?_⟩
  · rw [View.read_writes_cons_unit_of_not_mem arg7.view f inb _ _ y (off1_eq r) 0 (Or.inl hy)]
    exact h y hy
  · rw [View.read_writes_cons_unit_of_mem arg7.view f inb _ _ y
      (Fin.cons ⟨(y 0).val - 128 * r.val, by show (y 0).val - 128 * r.val < 128; omega⟩ (Fin.cons ⟨(y 1).val, (y 1).isLt⟩ finZeroElim))
      (off1_eq r) (fun a => by
        fin_cases a
        · show (y 0).val = 128 * r.val + ((y 0).val - 128 * r.val); omega
        · show (y 1).val = 0 + (y 1).val; omega)]
    rw [pay4_apply]; rfl

/-- The inner trip stores its block. -/
theorem rowAt_succ (arg7 : Memref sig .tc .vmem S8960x1536 .bf16) (f : arg7.view.ty.Contents (Elt F)) (r : Fin k0_t1_loop.trips) (n : ℕ)
    (w : BitVec 32) (hw : w.toNat = ciN ci (rpN rp r.val + n)) (hw12 : w.toNat < 12)
    (inb : ∀ a, k0_off7 r w a + S128x128.size a ≤ S8960x1536.size a) (pay : S128x128.Idx → Elt F .bf16)
    (hpay : ∀ x, pay x = cellVal x0 x2 (rpN rp r.val + n) (x 0).val (x 1).val)
    (h : RowAt rp ci x0 x2 r.val n (arg7.view.read (Elt F) f)) :
    RowAt rp ci x0 x2 r.val (n + 1) (arg7.view.read (Elt F) (arg7.view.writes (Elt F) f [⟨Rect.unit (k0_off7 r w) S128x128.size inb, pay⟩])) := by
  refine ⟨fun y hy => ?_, fun y hy hy' => ?_⟩
  · rw [View.read_writes_cons_unit_of_not_mem arg7.view f inb _ _ y (off7_eq r w hw12) 0 (Or.inl hy)]
    exact h.1 y hy
  · have hr : (y 0).val / 128 = r.val := by omega
    unfold cell lastHit
    rw [hr]
    by_cases hc : (y 1).val / 128 = w.toNat
    · rw [if_pos (hw.symm.trans hc.symm)]
      rw [View.read_writes_cons_unit_of_mem arg7.view f inb _ _ y
        (Fin.cons ⟨(y 0).val - 128 * r.val, by show (y 0).val - 128 * r.val < 128; omega⟩
          (Fin.cons ⟨(y 1).val - 128 * w.toNat, by show (y 1).val - 128 * w.toNat < 128; omega⟩ finZeroElim))
        (off7_eq r w hw12) (fun a => by
          fin_cases a
          · show (y 0).val = 128 * r.val + ((y 0).val - 128 * r.val); omega
          · show (y 1).val = 128 * w.toNat + ((y 1).val - 128 * w.toNat); omega)]
      rw [hpay]
      have e0 : (y 0).val % 128 = (y 0).val - 128 * r.val := by omega
      have e1 : (y 1).val % 128 = (y 1).val - 128 * w.toNat := by omega
      rw [e0, e1]; rfl
    · rw [if_neg (fun h => hc (h.symm.trans hw.symm))]
      rw [View.read_writes_cons_unit_of_not_mem arg7.view f inb _ _ y (off7_eq r w hw12) 1 (by
        show (y 1).val < 128 * w.toNat ∨ 128 * w.toNat + 128 ≤ (y 1).val
        omega)]
      have := h.2 y hy hy'
      unfold cell at this; rw [hr] at this
      exact this

/-- A block row whose blocks are all stored is done. -/
theorem rowsDone_succ (r : ℕ) (w : Vec F S8960x1536 .bf16) (h : RowAt rp ci x0 x2 r (rpN rp (r + 1) - rpN rp r) w) :
    RowsDone rp ci x0 x2 (r + 1) w := fun y hy => by
  rcases Nat.lt_or_ge (y 0).val (128 * r) with h1 | h1
  · exact h.1 y h1
  · have hr : (y 0).val / 128 = r := by omega
    rw [h.2 y h1 (by omega)]; unfold weights; rw [hr]

theorem rowsDone_zero (w : Vec F S8960x1536 .bf16) : RowsDone rp ci x0 x2 0 w := fun y hy => absurd hy (by omega)

/-- After the last outer trip the scratch holds the weights. -/
theorem eq_weights (w : Vec F S8960x1536 .bf16) (h : RowsDone rp ci x0 x2 70 w) : w = weights rp ci x0 x2 := funext fun y =>
  h y (by have : (y 0).val < 8960 := (y 0).isLt; omega)

end

end Cert.Proof.KernelIdeal

end
-- ==== Proof.KernelIdeal.T2.lean ====
/- The inner loop of the body (one trip per block of a block row), and its remainder loop, which has no trip. -/
module

public import proofs.«01_k».proof.Proof.KernelIdeal.Fold

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg3 : Memref sig .tc .smem S378 .f32) (harg3 : arg3.IsWhole) (arg4 : Memref sig .tc .vmem S256x1536 .bf16) (harg4 : arg4.IsWhole) (arg5 : Memref sig .tc .vmem S378x128x128 .fp8e4m3) (harg5 : arg5.IsWhole) (arg6 : Memref sig .tc .vmem S256x8960 .bf16) (harg6 : arg6.IsWhole) (arg7 : Memref sig .tc .vmem S8960x1536 .bf16) (harg7 : arg7.IsWhole) (k0_h1 : k0_cond1 i = 1#1)
variable (x0 : Vec F S378 .f32) (x2 : Vec F S378x128x128 .fp8e4m3) (xt0 : TbBuf0 (F := F) c tbM0_0) (xt1 : TbBuf0 (F := F) c tbM0_1)

/-- The tables' contents as words. -/
abbrev rpOf : S71.Idx → BitVec 32 := tbM0_0.view.read (Elt F) xt0
abbrev ciOf : S378.Idx → BitVec 32 := tbM0_1.view.read (Elt F) xt1

/-- What the loops touch: scales, blocks and tables at their contents, the scratch at some contents with `P`. -/
abbrev Res (P : Vec F S8960x1536 .bf16 → Prop) : sProp 𝕄 :=
  iprop((arg3.view.loc (c : Thread nD τ) ↦[arg3.view.set]{fullShare} harg3.unread x0)
    ∗ (arg5.view.loc (c : Thread nD τ) ↦[arg5.view.set]{fullShare} harg5.unread x2)
    ∗ tbPt0 c tbM0_0 xt0 ∗ tbPt0 c tbM0_1 xt1
    ∗ (∃ fs, ⌜P (arg7.view.read (Elt F) fs)⌝ ∗ (arg7.view.loc (c : Thread nD τ) ↦[arg7.view.set]{fullShare} fs)))

/-- A word of a table, read at a unit rectangle. -/
theorem word0_eq (n : ℕ) (hn : n < 71) (off : Fin 1 → ℕ) (ho : off = ![n]) (inb : ∀ a, off a + S1.size a ≤ S71.size a) (x : S1.Idx) :
    View.readAt (Elt F) tbM0_0.view (Rect.unit (s := S71) off S1.size inb).toLoadRect xt0 x = rpOf c xt0 (i71 n) := by
  subst ho
  rw [View.readAt_apply]
  congr 1
  funext a
  obtain rfl : a = 0 := Subsingleton.elim _ _
  apply Fin.ext
  have : (x 0).val = 0 := by have h : (x 0).val < 1 := (x 0).isLt; omega
  show n + 1 * (x 0).val = n % 71
  omega
theorem word1_eq (n : ℕ) (hn : n < 378) (off : Fin 1 → ℕ) (ho : off = ![n]) (inb : ∀ a, off a + S1.size a ≤ S378.size a) (x : S1.Idx) :
    View.readAt (Elt F) tbM0_1.view (Rect.unit (s := S378) off S1.size inb).toLoadRect xt1 x = ciOf c xt1 (i378 n) := by
  subst ho
  rw [View.readAt_apply]
  congr 1
  funext a
  obtain rfl : a = 0 := Subsingleton.elim _ _
  apply Fin.ext
  have : (x 0).val = 0 := by have h : (x 0).val < 1 := (x 0).isLt; omega
  show n + 1 * (x 0).val = n % 378
  omega
theorem scale_eq (n : ℕ) (hn : n < 378) (off : Fin 1 → ℕ) (ho : off = ![n]) (inb : ∀ a, off a + S1.size a ≤ S378.size a) (x : S1.Idx) :
    View.readAt (Elt F) arg3.view (Rect.unit (s := S378) off S1.size inb).toLoadRect (harg3.unread x0) x = x0 (i378 n) := by
  subst ho
  rw [View.readAt_apply, harg3.read_unread]
  congr 1
  funext a
  obtain rfl : a = 0 := Subsingleton.elim _ _
  apply Fin.ext
  have : (x 0).val = 0 := by have h : (x 0).val < 1 := (x 0).isLt; omega
  show n + 1 * (x 0).val = n % 378
  omega
theorem block_eq (n : ℕ) (hn : n < 378) (off : Fin 3 → ℕ) (ho : off = ![n, 0, 0]) (inb : ∀ a, off a + S1x128x128.size a ≤ S378x128x128.size a) :
    View.readAt (Elt F) arg5.view (Rect.unit (s := S378x128x128) off S1x128x128.size inb).toLoadRect (harg5.unread x2) = fun z => x2 (iblk3 n z) := by
  subst ho
  funext z
  rw [View.readAt_apply, harg5.read_unread]
  congr 1
  funext a
  apply Fin.ext
  have : (z 0).val = 0 := by have h : (z 0).val < 1 := (z 0).isLt; omega
  fin_cases a
  · show n + 1 * (z 0).val = n % 378; omega
  · show 0 + 1 * (z 1).val = (z 1).val; omega
  · show 0 + 1 * (z 2).val = (z 2).val; omega

theorem i128_eta (x : S128x128.Idx) : i128 (x 0).val (x 1).val = x := by
  funext a
  apply Fin.ext
  have h0 : (x 0).val < 128 := (x 0).isLt
  have h1 : (x 1).val < 128 := (x 1).isLt
  fin_cases a
  · exact Nat.mod_eq_of_lt h0
  · exact Nat.mod_eq_of_lt h1

set_option maxHeartbeats 1000000 in
/-- ONE INNER TRIP: block `row pointer + k` is scaled and stored at its column. -/
theorem t2_step (hg : Good (rpOf c xt0) (ciOf c xt1)) (k0_t1 : Fin k0_t1_loop.trips) (v54 v57 : BitVec 32) (k0_hw1 : k0_chk1 i v54 v57)
    (h54 : v54 = rpOf c xt0 (i71 k0_t1.val)) (h57 : v57 = rpOf c xt0 (i71 (k0_t1.val + 1)))
    (k : Fin (k0_t2_loop v54 v57).trips) (acc : BitVec 32) :
    Res c arg3 harg3 arg5 harg5 arg7 x0 x2 xt0 xt1 (RowAt (rpOf c xt0) (ciOf c xt1) x0 x2 k0_t1.val k.val)
      ⊢ wp frame (wpE (defs₀ (F := F)) Variants.none c none) Set.univ
        (k0_t2_body (F := F) i tbM0_0 htbM0_0 tbM0_1 htbM0_1 arg3 harg3 arg4 harg4 arg5 harg5 arg6 harg6 arg7 harg7 k0_h1 k0_t1 v54 v57 k0_hw1 k acc)
        (fun _ => Res c arg3 harg3 arg5 harg5 arg7 x0 x2 xt0 xt1 (RowAt (rpOf c xt0) (ciOf c xt1) x0 x2 k0_t1.val (k.val + 1))) := by
  have hr := lt70 k0_t1
  have hm : v54.toNat ≤ v57.toNat := by rw [h54, h57]; exact hg.mono _ hr
  have hb : v57.toNat ≤ 378 := by rw [h57]; exact hg.le378 (r := k0_t1.val + 1) (by omega)
  have hk := lt2 v54 v57 hm hb k
  have e54 : v54.toNat = rpN (rpOf c xt0) k0_t1.val := by rw [h54]
  unfold Res
  iintro ⟨H0, H2, HT0, HT1, ⟨%fs, %hP, HS⟩⟩
  unfold k0_t2_body
  sl_exec
  have hw : t2_step.sl.r c i k0_h1 xt1 v54 v57 k0_hw1 k = ciOf c xt1 (i378 (v54.toNat + k.val)) := by
    unfold t2_step.sl.r
    exact word1_eq c xt1 (v54.toNat + k.val) (by omega) _ (off5_eq v54 v57 hm hb k) _ _
  have hw12 : (t2_step.sl.r c i k0_h1 xt1 v54 v57 k0_hw1 k).toNat < 12 := by
    rw [hw]
    have hl := hg.le_of_le (r := k0_t1.val + 1) (s := 70) (by omega) le_rfl
    have h57' : v57.toNat = rpN (rpOf c xt0) (k0_t1.val + 1) := by rw [h57]
    exact hg.cols _ (by omega)
  have hw2 : k0_chk2 i k0_t1 (t2_step.sl.r c i k0_h1 xt1 v54 v57 k0_hw1 k) := chk2_of i k0_t1 _ hw12
  sl_exec (disch := exact hw2)
  sl_step
  isplitl [H0]; · iexact H0
  isplitl [H2]; · iexact H2
  isplitl [HT0]; · iexact HT0
  isplitl [HT1]; · iexact HT1
  iexists _
  isplitr
  swap
  · iexact HS
  ipureintro
  refine rowAt_succ arg7 fs k0_t1 k.val _ (by rw [hw, e54]) hw12 _ _ (fun x => ?_) hP
  have hs : t2_step.sl.r_1 i arg3 harg3 k0_h1 x0 v54 v57 k0_hw1 k = x0 (i378 (v54.toNat + k.val)) := by
    unfold t2_step.sl.r_1
    exact scale_eq arg3 harg3 x0 (v54.toNat + k.val) (by omega) _ (off4_eq v54 v57 hm hb k) _ _
  rw [hs, block_eq arg5 harg5 x2 (v54.toNat + k.val) (by omega) _ (off6_eq v54 v57 hm hb k) _]
  unfold cellVal
  rw [i128_eta, e54]

set_option warn.classDefReducibility false in
/-- THE INNER LOOP'S INVARIANT. -/
def loopInv2 (hg : Good (rpOf c xt0) (ciOf c xt1)) (k0_t1 : Fin k0_t1_loop.trips) (v54 v57 : BitVec 32) (k0_hw1 : k0_chk1 i v54 v57)
    (h54 : v54 = rpOf c xt0 (i71 k0_t1.val)) (h57 : v57 = rpOf c xt0 (i71 (k0_t1.val + 1))) (init : BitVec 32) :
    LoopInvTy_k0_t2 (F := F) Unit ℕ (UR sig nD τ) ℕ Variants.none c none Set.univ i tbM0_0 htbM0_0 tbM0_1 htbM0_1 arg3 harg3 arg4 harg4 arg5 harg5 arg6 harg6 arg7 harg7 k0_h1 k0_t1 v54 v57 k0_hw1 init where
  inv k _ := Res c arg3 harg3 arg5 harg5 arg7 x0 x2 xt0 xt1 (RowAt (rpOf c xt0) (ciOf c xt1) x0 x2 k0_t1.val k)
  step k acc := t2_step c i arg3 harg3 arg4 harg4 arg5 harg5 arg6 harg6 arg7 harg7 k0_h1 x0 x2 xt0 xt1 hg k0_t1 v54 v57 k0_hw1 h54 h57 k acc

/-- The inner loop whole: every block of the block row. -/
theorem t2_loop (hg : Good (rpOf c xt0) (ciOf c xt1)) (k0_t1 : Fin k0_t1_loop.trips) (v54 v57 : BitVec 32) (k0_hw1 : k0_chk1 i v54 v57)
    (h54 : v54 = rpOf c xt0 (i71 k0_t1.val)) (h57 : v57 = rpOf c xt0 (i71 (k0_t1.val + 1))) (init : BitVec 32)
    {β : Type} {kk : BitVec 32 → Prog (TpuEff nD τ sig (Elt F) Λ₀ .tc) β} {Q : β → sProp 𝕄} :
    Res c arg3 harg3 arg5 harg5 arg7 x0 x2 xt0 xt1 (RowAt (rpOf c xt0) (ciOf c xt1) x0 x2 k0_t1.val 0)
      ⊢ iprop((∀ acc, Res c arg3 harg3 arg5 harg5 arg7 x0 x2 xt0 xt1
            (RowAt (rpOf c xt0) (ciOf c xt1) x0 x2 k0_t1.val (k0_t2_loop v54 v57).trips)
          -∗ wp frame (wpE (defs₀ (F := F)) Variants.none c none) Set.univ (kk acc) Q)
        -∗ wp frame (wpE (defs₀ (F := F)) Variants.none c none) Set.univ
          (Scf.Loop.for (k0_t2_loop v54 v57) (k0_t2_ok i v54 v57 k0_hw1 k0_h1) init
            (k0_t2_body (F := F) i tbM0_0 htbM0_0 tbM0_1 htbM0_1 arg3 harg3 arg4 harg4 arg5 harg5 arg6 harg6 arg7 harg7 k0_h1 k0_t1 v54 v57 k0_hw1) >>= kk) Q) :=
  exec_loop _ _ _ _ _ _ _ _ _ (loopInv2 c i arg3 harg3 arg4 harg4 arg5 harg5 arg6 harg6 arg7 harg7 k0_h1 x0 x2 xt0 xt1 hg k0_t1 v54 v57 k0_hw1 h54 h57 init)
end

end Cert.Proof.KernelIdeal

end
-- ==== Proof.KernelIdeal.T1.lean ====
/- The outer loop of the body: one trip per block row clears the rows and assembles the blocks. -/
module

public import proofs.«01_k».proof.Proof.KernelIdeal.T2
public import Idealize.ShloMosaic.Lib.LoopRemainder

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg3 : Memref sig .tc .smem S378 .f32) (harg3 : arg3.IsWhole) (arg4 : Memref sig .tc .vmem S256x1536 .bf16) (harg4 : arg4.IsWhole) (arg5 : Memref sig .tc .vmem S378x128x128 .fp8e4m3) (harg5 : arg5.IsWhole) (arg6 : Memref sig .tc .vmem S256x8960 .bf16) (harg6 : arg6.IsWhole) (arg7 : Memref sig .tc .vmem S8960x1536 .bf16) (harg7 : arg7.IsWhole) (k0_h1 : k0_cond1 i = 1#1)
variable (x0 : Vec F S378 .f32) (x2 : Vec F S378x128x128 .fp8e4m3) (xt0 : TbBuf0 (F := F) c tbM0_0) (xt1 : TbBuf0 (F := F) c tbM0_1)

set_option maxHeartbeats 1000000 in
/-- ONE OUTER TRIP. -/
theorem t1_step (hg : Good (rpOf c xt0) (ciOf c xt1)) (k0_t1 : Fin k0_t1_loop.trips) :
    Res c arg3 harg3 arg5 harg5 arg7 x0 x2 xt0 xt1 (RowsDone (rpOf c xt0) (ciOf c xt1) x0 x2 k0_t1.val)
      ⊢ wp frame (wpE (defs₀ (F := F)) Variants.none c none) Set.univ
        (k0_t1_body (F := F) i tbM0_0 htbM0_0 tbM0_1 htbM0_1 arg3 harg3 arg4 harg4 arg5 harg5 arg6 harg6 arg7 harg7 k0_h1 k0_t1 ())
        (fun _ => Res c arg3 harg3 arg5 harg5 arg7 x0 x2 xt0 xt1 (RowsDone (rpOf c xt0) (ciOf c xt1) x0 x2 (k0_t1.val + 1))) := by
  have hr := lt70 k0_t1
  unfold Res
  iintro ⟨H0, H2, HT0, HT1, ⟨%fs, %hP, HS⟩⟩
  unfold k0_t1_body
  sl_exec
  have h54 : t1_step.sl.r c i k0_h1 xt0 k0_t1 = rpOf c xt0 (i71 k0_t1.val) := by
    unfold t1_step.sl.r
    exact word0_eq c xt0 k0_t1.val (by omega) _ (off2_eq k0_t1) _ _
  have h57 : t1_step.sl.r_1 c i k0_h1 xt0 k0_t1 = rpOf c xt0 (i71 (k0_t1.val + 1)) := by
    unfold t1_step.sl.r_1
    exact word0_eq c xt0 (k0_t1.val + 1) (by omega) _ (off3_eq k0_t1) _ _
  have hm : (t1_step.sl.r c i k0_h1 xt0 k0_t1).toNat ≤ (t1_step.sl.r_1 c i k0_h1 xt0 k0_t1).toNat := by
    rw [h54, h57]; exact hg.mono _ hr
  have hb : (t1_step.sl.r_1 c i k0_h1 xt0 k0_t1).toNat ≤ 378 := by rw [h57]; exact hg.le378 (r := k0_t1.val + 1) (by omega)
  have hw1 := chk1_of i _ _ hm hb
  have hP0 := rowAt_zero arg7 fs k0_t1 (k0_off1_inb i k0_t1 k0_h1) hP
  sl_exec (disch := exact hw1)
  iapply (t2_loop c i arg3 harg3 arg4 harg4 arg5 harg5 arg6 harg6 arg7 harg7 k0_h1 x0 x2 xt0 xt1 hg k0_t1 _ _ hw1 h54 h57 _) $$ [H0 H2 HT0 HT1 HS]
  · isplitl [H0]; · iexact H0
    isplitl [H2]; · iexact H2
    isplitl [HT0]; · iexact HT0
    isplitl [HT1]; · iexact HT1
    iexists _
    isplitr
    swap
    · iexact HS
    ipureintro; exact hP0
  iintro %acc ⟨H0, H2, HT0, HT1, ⟨%fs', %hP', HS⟩⟩
  sl_exec
  sl_step
  isplitl [H0]; · iexact H0
  isplitl [H2]; · iexact H2
  isplitl [HT0]; · iexact HT0
  isplitl [HT1]; · iexact HT1
  iexists fs'
  isplitr
  swap
  · iexact HS
  ipureintro
  refine rowsDone_succ _ _ ?_
  have ht := trips2 _ _ hm hb
  have e : rpN (rpOf c xt0) (k0_t1.val + 1) - rpN (rpOf c xt0) k0_t1.val = (t1_step.sl.r_1 c i k0_h1 xt0 k0_t1).toNat - (t1_step.sl.r c i k0_h1 xt0 k0_t1).toNat := by
    rw [h54, h57]
  rw [e, ← ht]
  exact hP'

set_option warn.classDefReducibility false in
/-- THE OUTER LOOP'S INVARIANT. -/
def loopInv1 (hg : Good (rpOf c xt0) (ciOf c xt1)) :
    LoopInvTy_k0_t1 (F := F) Unit ℕ (UR sig nD τ) ℕ Variants.none c none Set.univ i tbM0_0 htbM0_0 tbM0_1 htbM0_1 arg3 harg3 arg4 harg4 arg5 harg5 arg6 harg6 arg7 harg7 k0_h1 where
  inv k _ := Res c arg3 harg3 arg5 harg5 arg7 x0 x2 xt0 xt1 (RowsDone (rpOf c xt0) (ciOf c xt1) x0 x2 k)
  step k _ := t1_step c i arg3 harg3 arg4 harg4 arg5 harg5 arg6 harg6 arg7 harg7 k0_h1 x0 x2 xt0 xt1 hg k

/-- The outer loop whole, in front of the rest of the body: the scratch, whatever it held, holds the weights. -/
theorem t1_loop (hg : Good (rpOf c xt0) (ciOf c xt1))
    {β : Type} {kk : Unit → Prog (TpuEff nD τ sig (Elt F) Λ₀ .tc) β} {Q : β → sProp 𝕄} :
    Res c arg3 harg3 arg5 harg5 arg7 x0 x2 xt0 xt1 (RowsDone (rpOf c xt0) (ciOf c xt1) x0 x2 0)
      ⊢ iprop((∀ _ : Unit, Res c arg3 harg3 arg5 harg5 arg7 x0 x2 xt0 xt1 (RowsDone (rpOf c xt0) (ciOf c xt1) x0 x2 k0_t1_loop.trips)
          -∗ wp frame (wpE (defs₀ (F := F)) Variants.none c none) Set.univ (kk ()) Q)
        -∗ wp frame (wpE (defs₀ (F := F)) Variants.none c none) Set.univ
          (Scf.Loop.for k0_t1_loop (k0_t1_ok i k0_h1) ⟨⟩
            (k0_t1_body (F := F) i tbM0_0 htbM0_0 tbM0_1 htbM0_1 arg3 harg3 arg4 harg4 arg5 harg5 arg6 harg6 arg7 harg7 k0_h1) >>= kk) Q) :=
  exec_loop _ _ _ _ _ _ _ _ _ (loopInv1 c i arg3 harg3 arg4 harg4 arg5 harg5 arg6 harg6 arg7 harg7 k0_h1 x0 x2 xt0 xt1 hg)

/-- The outer loop whole, as the last operation of its region. -/
theorem t1_loop_last (hg : Good (rpOf c xt0) (ciOf c xt1)) {Q : Unit → sProp 𝕄} :
    Res c arg3 harg3 arg5 harg5 arg7 x0 x2 xt0 xt1 (RowsDone (rpOf c xt0) (ciOf c xt1) x0 x2 0)
      ⊢ iprop((∀ u : Unit, Res c arg3 harg3 arg5 harg5 arg7 x0 x2 xt0 xt1 (RowsDone (rpOf c xt0) (ciOf c xt1) x0 x2 k0_t1_loop.trips) -∗ Q u)
        -∗ wp frame (wpE (defs₀ (F := F)) Variants.none c none) Set.univ
          (Scf.Loop.for k0_t1_loop (k0_t1_ok i k0_h1) ⟨⟩
            (k0_t1_body (F := F) i tbM0_0 htbM0_0 tbM0_1 htbM0_1 arg3 harg3 arg4 harg4 arg5 harg5 arg6 harg6 arg7 harg7 k0_h1)) Q) :=
  exec_loop_last _ _ _ _ _ _ _ _ _ (loopInv1 c i arg3 harg3 arg4 harg4 arg5 harg5 arg6 harg6 arg7 harg7 k0_h1 x0 x2 xt0 xt1 hg)
end

end Cert.Proof.KernelIdeal

end
-- ==== Proof.KernelIdeal.Run.lean ====
/- The body at a grid point, run whole: at the first point it assembles the weights in its scratch, at every point it multiplies
   its block of rows by the weights, chunk of 1280 columns by chunk. -/
module

public import proofs.«01_k».proof.Proof.KernelIdeal.T1
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point leaves in its output block -/

/-- An index of the scratch, and of a chunk's product, by numbers. -/
def iW (p q : ℕ) : S8960x1536.Idx := Fin.cons ⟨p % 8960, Nat.mod_lt _ (by decide)⟩ (Fin.cons ⟨q % 1536, Nat.mod_lt _ (by decide)⟩ finZeroElim)
def iC (p q : ℕ) : S256x1280.Idx := Fin.cons ⟨p % 256, Nat.mod_lt _ (by decide)⟩ (Fin.cons ⟨q % 1280, Nat.mod_lt _ (by decide)⟩ finZeroElim)

/-- Chunk `k` of the weights: rows `1280 k …`. -/
def chunk (W : Vec F S8960x1536 .bf16) (k : ℕ) : Vec F S1280x1536 .bf16 := fun z => W (iW (1280 * k + (z 0).val) (z 1).val)

/-- THE OUTPUT BLOCK of a point whose rows are `x1`: column `y 1` is in the product with chunk `y 1 / 1280`. -/
def outBlk (x1 : Vec F S256x1536 .bf16) (W : Vec F S8960x1536 .bf16) : Vec F S256x8960 .bf16 := fun y =>
  k0_pay7 x1 (chunk W ((y 1).val / 1280)) (iC (y 0).val ((y 1).val % 1280))

section
variable (arg4 : Memref sig .tc .vmem S256x1536 .bf16) (harg4 : arg4.IsWhole) (arg6 : Memref sig .tc .vmem S256x8960 .bf16) (arg7 : Memref sig .tc .vmem S8960x1536 .bf16) (harg7 : arg7.IsWhole)
  (x1 : Vec F S256x1536 .bf16) (W : Vec F S8960x1536 .bf16)

theorem rows_eq (off : Fin 2 → ℕ) (ho : off = ![0, 0]) (inb : ∀ a, off a + S256x1536.size a ≤ S256x1536.size a) :
    View.readAt (Elt F) arg4.view (Rect.unit (s := S256x1536) off S256x1536.size inb).toLoadRect (harg4.unread x1) = x1 := by
  subst ho
  funext z
  rw [View.readAt_apply, harg4.read_unread]
  congr 1
  funext a
  apply Fin.ext
  fin_cases a
  · show 0 + 1 * (z 0).val = (z 0).val; omega
  · show 0 + 1 * (z 1).val = (z 1).val; omega

theorem chunk_eq (k : ℕ) (hk : k < 7) (off : Fin 2 → ℕ) (ho : off = ![1280 * k, 0]) (inb : ∀ a, off a + S1280x1536.size a ≤ S8960x1536.size a) :
    View.readAt (Elt F) arg7.view (Rect.unit (s := S8960x1536) off S1280x1536.size inb).toLoadRect (harg7.unread W) = chunk W k := by
  subst ho
  funext z
  rw [View.readAt_apply, harg7.read_unread]
  unfold chunk
  congr 1
  funext a
  apply Fin.ext
  have h0 : (z 0).val < 1280 := (z 0).isLt
  have h1 : (z 1).val < 1536 := (z 1).isLt
  fin_cases a
  · show 1280 * k + 1 * (z 0).val = (1280 * k + (z 0).val) % 8960; omega
  · show 0 + 1 * (z 1).val = (z 1).val % 1536; omega

/-- Seven stores of the chunks' products leave the output block. -/
theorem read_chunks (f : arg6.view.ty.Contents (Elt F)) (P : ℕ → S256x1280.Idx → Elt F .bf16)
    (i0 : ∀ a, ![0, 0] a + S256x1280.size a ≤ S256x8960.size a) (i1 : ∀ a, ![0, 1280] a + S256x1280.size a ≤ S256x8960.size a)
    (i2 : ∀ a, ![0, 2560] a + S256x1280.size a ≤ S256x8960.size a) (i3 : ∀ a, ![0, 3840] a + S256x1280.size a ≤ S256x8960.size a)
    (i4 : ∀ a, ![0, 5120] a + S256x1280.size a ≤ S256x8960.size a) (i5 : ∀ a, ![0, 6400] a + S256x1280.size a ≤ S256x8960.size a)
    (i6 : ∀ a, ![0, 7680] a + S256x1280.size a ≤ S256x8960.size a) :
    arg6.view.read (Elt F) (arg6.view.writes (Elt F) f
      [⟨Rect.unit (s := S256x8960) ![0, 7680] S256x1280.size i6, P 6⟩, ⟨Rect.unit (s := S256x8960) ![0, 6400] S256x1280.size i5, P 5⟩,
       ⟨Rect.unit (s := S256x8960) ![0, 5120] S256x1280.size i4, P 4⟩, ⟨Rect.unit (s := S256x8960) ![0, 3840] S256x1280.size i3, P 3⟩,
       ⟨Rect.unit (s := S256x8960) ![0, 2560] S256x1280.size i2, P 2⟩, ⟨Rect.unit (s := S256x8960) ![0, 1280] S256x1280.size i1, P 1⟩,
       ⟨Rect.unit (s := S256x8960) ![0, 0] S256x1280.size i0, P 0⟩])
      = fun y => P ((y 1).val / 1280) (iC (y 0).val ((y 1).val % 1280)) := by
  funext y
  have h0 : (y 0).val < 256 := (y 0).isLt
  have h1 : (y 1).val < 8960 := (y 1).isLt
  have hit : ∀ k, (y 1).val / 1280 = k → ∀ a : Fin 2, (y a).val = ![0, 1280 * k] a + (iC (y 0).val ((y 1).val % 1280) a).val := by
    intro k hk a
    fin_cases a
    · show (y 0).val = 0 + (y 0).val % 256; omega
    · show (y 1).val = 1280 * k + (y 1).val % 1280 % 1280; omega
  by_cases c6 : (y 1).val / 1280 = 6
  · rw [View.read_writes_cons_unit_of_mem arg6.view f i6 _ _ y _ rfl (hit 6 c6), c6]
  rw [View.read_writes_cons_unit_of_not_mem arg6.view f i6 _ _ y rfl 1 (by show (y 1).val < 7680 ∨ 7680 + 1280 ≤ (y 1).val; omega)]
  by_cases c5 : (y 1).val / 1280 = 5
  · rw [View.read_writes_cons_unit_of_mem arg6.view f i5 _ _ y _ rfl (hit 5 c5), c5]
  rw [View.read_writes_cons_unit_of_not_mem arg6.view f i5 _ _ y rfl 1 (by show (y 1).val < 6400 ∨ 6400 + 1280 ≤ (y 1).val; omega)]
  by_cases c4 : (y 1).val / 1280 = 4
  · rw [View.read_writes_cons_unit_of_mem arg6.view f i4 _ _ y _ rfl (hit 4 c4), c4]
  rw [View.read_writes_cons_unit_of_not_mem arg6.view f i4 _ _ y rfl 1 (by show (y 1).val < 5120 ∨ 5120 + 1280 ≤ (y 1).val; omega)]
  by_cases c3 : (y 1).val / 1280 = 3
  · rw [View.read_writes_cons_unit_of_mem arg6.view f i3 _ _ y _ rfl (hit 3 c3), c3]
  rw [View.read_writes_cons_unit_of_not_mem arg6.view f i3 _ _ y rfl 1 (by show (y 1).val < 3840 ∨ 3840 + 1280 ≤ (y 1).val; omega)]
  by_cases c2 : (y 1).val / 1280 = 2
  · rw [View.read_writes_cons_unit_of_mem arg6.view f i2 _ _ y _ rfl (hit 2 c2), c2]
  rw [View.read_writes_cons_unit_of_not_mem arg6.view f i2 _ _ y rfl 1 (by show (y 1).val < 2560 ∨ 2560 + 1280 ≤ (y 1).val; omega)]
  by_cases c1 : (y 1).val / 1280 = 1
  · rw [View.read_writes_cons_unit_of_mem arg6.view f i1 _ _ y _ rfl (hit 1 c1), c1]
  rw [View.read_writes_cons_unit_of_not_mem arg6.view f i1 _ _ y rfl 1 (by show (y 1).val < 1280 ∨ 1280 + 1280 ≤ (y 1).val; omega)]
  have c0 : (y 1).val / 1280 = 0 := by omega
  rw [View.read_writes_cons_unit_of_mem arg6.view f i0 _ _ y _ rfl (hit 0 c0), c0]

/-- The seven products, whatever the run names them, leave the output block. -/
theorem out_eq (f : arg6.view.ty.Contents (Elt F)) (p0 p1 p2 p3 p4 p5 p6 : S256x1280.Idx → Elt F .bf16)
    (e0 : p0 = k0_pay7 x1 (chunk W 0)) (e1 : p1 = k0_pay7 x1 (chunk W 1)) (e2 : p2 = k0_pay7 x1 (chunk W 2)) (e3 : p3 = k0_pay7 x1 (chunk W 3))
    (e4 : p4 = k0_pay7 x1 (chunk W 4)) (e5 : p5 = k0_pay7 x1 (chunk W 5)) (e6 : p6 = k0_pay7 x1 (chunk W 6))
    (i0 : ∀ a, ![0, 0] a + S256x1280.size a ≤ S256x8960.size a) (i1 : ∀ a, ![0, 1280] a + S256x1280.size a ≤ S256x8960.size a)
    (i2 : ∀ a, ![0, 2560] a + S256x1280.size a ≤ S256x8960.size a) (i3 : ∀ a, ![0, 3840] a + S256x1280.size a ≤ S256x8960.size a)
    (i4 : ∀ a, ![0, 5120] a + S256x1280.size a ≤ S256x8960.size a) (i5 : ∀ a, ![0, 6400] a + S256x1280.size a ≤ S256x8960.size a)
    (i6 : ∀ a, ![0, 7680] a + S256x1280.size a ≤ S256x8960.size a) :
    arg6.view.read (Elt F) (arg6.view.writes (Elt F) f
      [⟨Rect.unit (s := S256x8960) ![0, 7680] S256x1280.size i6, p6⟩, ⟨Rect.unit (s := S256x8960) ![0, 6400] S256x1280.size i5, p5⟩,
       ⟨Rect.unit (s := S256x8960) ![0, 5120] S256x1280.size i4, p4⟩, ⟨Rect.unit (s := S256x8960) ![0, 3840] S256x1280.size i3, p3⟩,
       ⟨Rect.unit (s := S256x8960) ![0, 2560] S256x1280.size i2, p2⟩, ⟨Rect.unit (s := S256x8960) ![0, 1280] S256x1280.size i1, p1⟩,
       ⟨Rect.unit (s := S256x8960) ![0, 0] S256x1280.size i0, p0⟩]) = outBlk x1 W := by
  subst e0 e1 e2 e3 e4 e5 e6
  exact read_chunks arg6 f (fun k => k0_pay7 x1 (chunk W k)) i0 i1 i2 i3 i4 i5 i6
end

/-! ## The runs -/

section
variable (c : Dev nD) (i : grid0.Coords) (arg3 : Memref sig .tc .smem S378 .f32) (harg3 : arg3.IsWhole) (arg4 : Memref sig .tc .vmem S256x1536 .bf16) (harg4 : arg4.IsWhole) (arg5 : Memref sig .tc .vmem S378x128x128 .fp8e4m3) (harg5 : arg5.IsWhole) (arg6 : Memref sig .tc .vmem S256x8960 .bf16) (harg6 : arg6.IsWhole) (arg7 : Memref sig .tc .vmem S8960x1536 .bf16) (harg7 : arg7.IsWhole)
variable (x0 : Vec F S378 .f32) (x1 : Vec F S256x1536 .bf16) (x2 : Vec F S378x128x128 .fp8e4m3) (xt0 : TbBuf0 (F := F) c tbM0_0) (xt1 : TbBuf0 (F := F) c tbM0_1)

set_option maxHeartbeats 4000000 in
/-- THE BODY AT A LATER POINT: the scratch holds `W` and keeps it. -/
theorem run_later (W : Vec F S8960x1536 .bf16) (hc0 : ¬ cond0_0 i) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare W ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (outBlk x1 W) ∗ owns (c : Thread nD τ) arg7 fullShare W ∗ tbPt0 c tbM0_0 xt0 ∗ tbPt0 c tbM0_1 xt1) -∗ K ⟨⟩))
      ⊢ wp frame (wpE (defs₀ (F := F)) Variants.none c none) Set.univ (cc0_bsr_linear i tbM0_0 htbM0_0 tbM0_1 htbM0_1 arg3 harg3 arg4 harg4 arg5 harg5 arg6 harg6 arg7 harg7) K := by
  simp only [cc0_bsr_linear_eq_skeleton]; unfold cc0_bsr_linear_skel
  simp only [k0_part1_eq_skeleton]
  unfold owns
  iintro ⟨⟨%f0, %hf0, H0⟩, ⟨%f1, %hf1, H1⟩, ⟨%f2, %hf2, H2⟩, ⟨%d3, %f3, -, H3⟩, ⟨%fs0, %hfs0, HS0⟩, HT0, HT1, Hk⟩
  obtain rfl := harg3.eq_unread hf0; obtain rfl := harg4.eq_unread hf1; obtain rfl := harg5.eq_unread hf2; obtain rfl := harg7.eq_unread hfs0
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap
    · iexact H3
    ipureintro
    refine out_eq arg6 x1 W _ _ _ _ _ _ _ _ ?_ ?_ ?_ ?_ ?_ ?_ ?_ _ _ _ _ _ _ _
    · exact congrArg₂ k0_pay7 (rows_eq arg4 harg4 x1 _ rfl _) (chunk_eq arg7 harg7 W 0 (by decide) _ rfl _)
    · exact congrArg₂ k0_pay8 (rows_eq arg4 harg4 x1 _ rfl _) (chunk_eq arg7 harg7 W 1 (by decide) _ rfl _)
    · exact congrArg₂ k0_pay9 (rows_eq arg4 harg4 x1 _ rfl _) (chunk_eq arg7 harg7 W 2 (by decide) _ rfl _)
    · exact congrArg₂ k0_pay10 (rows_eq arg4 harg4 x1 _ rfl _) (chunk_eq arg7 harg7 W 3 (by decide) _ rfl _)
    · exact congrArg₂ k0_pay1 (rows_eq arg4 harg4 x1 _ rfl _) (chunk_eq arg7 harg7 W 4 (by decide) _ rfl _)
    · exact congrArg₂ k0_pay2 (rows_eq arg4 harg4 x1 _ rfl _) (chunk_eq arg7 harg7 W 5 (by decide) _ rfl _)
    · exact congrArg₂ k0_pay3 (rows_eq arg4 harg4 x1 _ rfl _) (chunk_eq arg7 harg7 W 6 (by decide) _ rfl _)
  isplitl [HS0]
  · iexists _; isplitr; · ipureintro; exact harg7.read_unread _
    iexact HS0
  isplitl [HT0]; · iexact HT0
  iexact HT1

set_option maxHeartbeats 4000000 in
/-- THE BODY AT THE FIRST POINT: the scratch, whatever it held, ends at the weights. -/
theorem run_first (hg : Good (rpOf c xt0) (ciOf c xt1)) (hc0 : cond0_0 i) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (outBlk x1 (weights (rpOf c xt0) (ciOf c xt1) x0 x2)) ∗ owns (c : Thread nD τ) arg7 fullShare (weights (rpOf c xt0) (ciOf c xt1) x0 x2) ∗ tbPt0 c tbM0_0 xt0 ∗ tbPt0 c tbM0_1 xt1) -∗ K ⟨⟩))
      ⊢ wp frame (wpE (defs₀ (F := F)) Variants.none c none) Set.univ (cc0_bsr_linear i tbM0_0 htbM0_0 tbM0_1 htbM0_1 arg3 harg3 arg4 harg4 arg5 harg5 arg6 harg6 arg7 harg7) K := by
  simp only [cc0_bsr_linear_eq_skeleton]; unfold cc0_bsr_linear_skel
  simp only [k0_part1_eq_skeleton]
  unfold owns
  iintro ⟨⟨%f0, %hf0, H0⟩, ⟨%f1, %hf1, H1⟩, ⟨%f2, %hf2, H2⟩, ⟨%d3, %f3, -, H3⟩, ⟨%ds0, %fs0, -, HS0⟩, HT0, HT1, Hk⟩
  obtain rfl := harg3.eq_unread hf0; obtain rfl := harg4.eq_unread hf1; obtain rfl := harg5.eq_unread hf2
  sl_exec (disch := first | sl_exact hc0)
  iapply (t1_loop c i arg3 harg3 arg4 harg4 arg5 harg5 arg6 harg6 arg7 harg7 hc0 x0 x2 xt0 xt1 hg) $$ [H0 H2 HT0 HT1 HS0]
  · isplitl [H0]; · iexact H0
    isplitl [H2]; · iexact H2
    isplitl [HT0]; · iexact HT0
    isplitl [HT1]; · iexact HT1
    iexists fs0
    isplitr
    swap
    · iexact HS0
    ipureintro; exact rowsDone_zero _
  iintro %u ⟨H0, H2, HT0, HT1, ⟨%fs, %hP, HS0⟩⟩
  rw [trips1] at hP
  obtain rfl := harg7.eq_unread (eq_weights _ hP)
  generalize hW : weights (rpOf c xt0) (ciOf c xt1) x0 x2 = W
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap
    · iexact H3
    ipureintro
    refine out_eq arg6 x1 W _ _ _ _ _ _ _ _ ?_ ?_ ?_ ?_ ?_ ?_ ?_ _ _ _ _ _ _ _
    · exact congrArg₂ k0_pay7 (rows_eq arg4 harg4 x1 _ rfl _) (chunk_eq arg7 harg7 W 0 (by decide) _ rfl _)
    · exact congrArg₂ k0_pay8 (rows_eq arg4 harg4 x1 _ rfl _) (chunk_eq arg7 harg7 W 1 (by decide) _ rfl _)
    · exact congrArg₂ k0_pay9 (rows_eq arg4 harg4 x1 _ rfl _) (chunk_eq arg7 harg7 W 2 (by decide) _ rfl _)
    · exact congrArg₂ k0_pay10 (rows_eq arg4 harg4 x1 _ rfl _) (chunk_eq arg7 harg7 W 3 (by decide) _ rfl _)
    · exact congrArg₂ k0_pay1 (rows_eq arg4 harg4 x1 _ rfl _) (chunk_eq arg7 harg7 W 4 (by decide) _ rfl _)
    · exact congrArg₂ k0_pay2 (rows_eq arg4 harg4 x1 _ rfl _) (chunk_eq arg7 harg7 W 5 (by decide) _ rfl _)
    · exact congrArg₂ k0_pay3 (rows_eq arg4 harg4 x1 _ rfl _) (chunk_eq arg7 harg7 W 6 (by decide) _ rfl _)
  isplitl [HS0]
  · iexists _; isplitr; · ipureintro; exact harg7.read_unread _
    iexact HS0
  isplitl [HT0]; · iexact HT0
  iexact HT1
end

end Cert.Proof.KernelIdeal

end
-- ==== Proof.KernelIdeal.Dats.lean ====
/- The pipeline's proof data: what each buffer holds after each grid point, the body obligation, the launch and the frame. -/
module

public import proofs.«01_k».proof.Proof.KernelIdeal.Run
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is asked of the tables the launch memory holds. -/
abbrev GoodM : Prop := Good (rpOf (0 : Dev nD) (tbl m 0)) (ciOf (0 : Dev nD) (tbl m 1))

/-- The weights, from the tables and the blocks of scales and weights that the first point finds. -/
def weightsM (hO : Ok m) (c : Dev nD) : Vec F S8960x1536 .bf16 :=
  weights (rpOf c (tbl m 0)) (ciOf c (tbl m 1)) (iblk m hO c 0 ⟨0, by rw [show (cfgM m hO).N = 36 from N_0]; decide⟩)
    (iblk m hO c 2 ⟨0, by rw [show (cfgM m hO).N = 36 from N_0]; decide⟩)

/-- The region invariant before position `n`: before the first point every scratch at anything; afterwards the scratch at
    the weights and the generator register at some state; the tables' halves throughout. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (weightsM m hO c)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare (weightsM m hO c)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare (weightsM m hO c)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at the product's block; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outBlk (iblk m hO c 1 t) (weightsM m hO c)
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outBlk (iblk m hO c 1 t) (weightsM m hO c) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 3200000 in
/-- The body at any point: the inputs' memrefs hold their blocks; the run of the first point, or of a later one, applies. -/
theorem sound_body (hO : Ok m) (hG : GoodM m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3]
  rw [show (dats m hO 0 c).Φ t.succ = PhiS m hO c (t.val + 1) t.isLt from rfl, PhiS_succ, PhiT0_eq]
  have hN : t.val < 36 := lt_of_lt_of_eq t.isLt (show (cfgM m hO).N = 36 from N_0)
  by_cases hz : t.val = 0
  · rw [PhiS_castSucc m hO c t, PhiS_zero m hO c _ _ hz, PhiT0_eq, PhiA0_eq]
    have et : t = ⟨0, by rw [show (cfgM m hO).N = 36 from N_0]; decide⟩ := Fin.ext hz
    have eW : weightsM m hO c = weights (rpOf c (tbl m 0)) (ciOf c (tbl m 1)) (iblk m hO c 0 t) (iblk m hO c 2 t) := by rw [et]; rfl
    rw [eW]
    iintro ⟨⟨⟨HS0, Hg⟩, ⟨HT0, HT1⟩⟩, Ho, ⟨%d0, H0⟩, ⟨%d1, H1⟩, ⟨%d2, H2⟩, ⟨%d3, H3⟩⟩
    iapply (run_first c (grid0.coords t) _ _ _ _ _ _ _ _ _ _ (iblk m hO c 0 t) (iblk m hO c 1 t) (iblk m hO c 2 t) (tbl m 0) (tbl m 1) hG ((hcond0_0 t).mpr (by omega)) _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, H3, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    isplitl [H2]; · iexact H2
    iexact H3
  · rw [PhiS_castSucc m hO c t, PhiS_pos m hO c _ _ hz, PhiT0_eq]
    iintro ⟨⟨⟨HS0, Hg⟩, ⟨HT0, HT1⟩⟩, Ho, ⟨%d0, H0⟩, ⟨%d1, H1⟩, ⟨%d2, H2⟩, ⟨%d3, H3⟩⟩
    iapply (run_later c (grid0.coords t) _ _ _ _ _ _ _ _ _ _ (iblk m hO c 0 t) (iblk m hO c 1 t) (iblk m hO c 2 t) (tbl m 0) (tbl m 1) (weightsM m hO c) (fun h => hz (by have := (hcond0_0 t).mp h; omega)) _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, H3, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    isplitl [H2]; · iexact H2
    iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hG : GoodM m) (c : Dev nD) : BodyObligation (dats (F := F) m hO 0 c) (defs₀ (F := F)) Variants.none () Set.univ := fun t => by
  rw [bigSep_W0, bigSep_W0, defs₀_row m hO]
  exact triple_restated (sound_body m hO hG c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 36 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) (hG : GoodM m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO hG c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) (hG : GoodM m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO hG)

/-- `frame` without the counters: the argument arrays end unchanged. -/
theorem unchanged (hO : Ok m) (hG : GoodM m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO hG)

/-- THE FRAME: every run ends, with the argument arrays unchanged and every counter at zero. -/
theorem frame (hO : Ok m) (hG : GoodM m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hG) ((θ_run defs _ _).mono (fun _ h => h.2) (run_main_quiescent m ρ hO hG))

end Cert.Proof.KernelIdeal

end
-- ==== Proof.KernelIdeal.Pre.lean ====
/- The precondition gives what the frame asks of the tables. -/
module

public import proofs.«01_k».proof.Proof.KernelIdeal.Dats
public import proofs.«01_k».proof.Proof.PreFacts
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's index map reads a table: the pipeline's side condition of them is empty. -/
theorem ok : Ok m := trivial

/-- The tables the body is handed are the launch memory's arguments. -/
theorem rp_eq (c : Dev nD) : rpOf c (tbl m 0) = m ((c : Thread nD τ).loc main_arg1) := by
  obtain rfl : c = 0 := Subsingleton.elim _ _
  exact V_main_arg1 m 0
theorem ci_eq (c : Dev nD) : ciOf c (tbl m 1) = m ((c : Thread nD τ).loc main_arg2) := by
  obtain rfl : c = 0 := Subsingleton.elim _ _
  exact V_main_arg2 m 0

theorem good_of_nums (h : Cert.Proof.PreFacts.Nums (m (((0 : Dev nD) : Thread nD τ).loc main_arg1)) (m (((0 : Dev nD) : Thread nD τ).loc main_arg2))) : GoodM m := by
  unfold GoodM
  rw [rp_eq m 0, ci_eq m 0]
  exact ⟨h.start, h.mono, h.last, h.cols⟩

end Cert.Proof.KernelIdeal

end
-- ==== Proof.RefTail.lean ====
/- What the reference's host operations compute: the lines before its dequantising call (`rowOf`: the block row of every
   stored block, by counting; `col1`: the scale as a column of planes) and the lines after it (`refOut`: the blocks placed in
   a zero matrix, then the product). -/
module

public import proofs.«01_k».proof.Proof.Gen.ReferenceIdeal.Frame
public import Idealize.ShloMosaic.Lib.Claim
public import Idealize.ShloMosaic.PureOps.Ideal

@[expose] public section

noncomputable section

namespace Cert.Proof.RefTail

open Idealize.ShloMosaic Idealize.SL.Sem Cert.ReferenceIdeal Cert.ReferenceIdeal.Gen

/-- The block row of every stored block: how many row starts are at most its number, less one. -/
def rowOf (rp : IVec S71 32) : IVec S378 32 :=
  subi (Host.reduce IntOp.addi
      (extui 32
        (cmpi .sle
          (broadcastInDim S71x378 ![0, 1] bcast_S71x1_S71x378_0_1 (broadcastInDim S71x1 ![0] bcast_S71_S71x1_0 rp))
          (broadcastInDim S71x378 ![0, 1] bcast_S1x378_S71x378_0_1 (broadcastInDim S1x378 ![1] bcast_S378_S1x378_1 (iotaInDim S378 32 0))))
        natLt_1_32)
      (constantI S_ 32 0#32) reducesTo_S71x378_S378_d0 h_S_)
    (broadcastInDim S378 ![] bcast_S_S378 (constantI S_ 32 1#32))

/-- Where each block goes: its block row and its block column, a negative number counted from the end. -/
def places (er ci : IVec S378 32) : IVec S378x2 32 :=
  concatenate S378x2 1
    [⟨S378x1, broadcastInDim S378x1 ![0] bcast_S378_S378x1_0
        (select (cmpi .slt er (broadcastInDim S378 ![] bcast_S_S378 (constantI S_ 32 0#32)))
          (addi er (broadcastInDim S378 ![] bcast_S_S378 (constantI S_ 32 70#32))) er)⟩,
      ⟨S378x1, broadcastInDim S378x1 ![0] bcast_S378_S378x1_0
        (select (cmpi .slt ci (broadcastInDim S378 ![] bcast_S_S378 (constantI S_ 32 0#32)))
          (addi ci (broadcastInDim S378 ![] bcast_S_S378 (constantI S_ 32 12#32))) ci)⟩]
    concatenates_S378x1_S378x1_S378x2_d1

/-- The blocks placed in a zero matrix. -/
def placed (er ci : IVec S378 32) (bl : FVec Ideal S378x128x128 .bf16) : FVec Ideal S70x128x12x128 .bf16 :=
  Host.scatter scatter_S70x128x12x128_S378x2_S378x128x128_12_02_02_1 (fun _ b => b)
    (broadcastInDim S70x128x12x128 ![] bcast_S_S70x128x12x128 (constant (F := Ideal) S_ .bf16 0x0000#16)) (places er ci) bl

/-- The reference's result of the activations, the rows, the columns and the dequantised blocks. -/
def refOut (x : FVec Ideal S24x384x1536 .bf16) (er ci : IVec S378 32) (bl : FVec Ideal S378x128x128 .bf16) : FVec Ideal S24x384x8960 .bf16 :=
  truncf .bf16
    (Host.dotGeneral dot_S24x384x1536_S8960x1536_S24x384x8960_2_1_01_0_n_n none x
      (shapeCast S8960x1536 (placed er ci bl) shapeCasts_S70x128x12x128_S8960x1536))
    bitsLt_bf16_f32

theorem tail (W : Valuation τ sig (Elt Ideal)) :
    StableHlo.after (hostOps1 (F := Ideal)) W (Proc.devRef .tc main_v23)
      = refOut (W (Proc.devRef .tc main_arg0)) (W (Proc.devRef .tc main_v3)) (W (Proc.devRef .tc main_arg2)) (W (Proc.devRef .tc main_v5)) := by
  after_results
  rfl

theorem head (W : Valuation τ sig (Elt Ideal)) :
    StableHlo.after (List.flatten [hostOps0 (F := Ideal), hostOps0_1, hostOps0_2]) W (Proc.devRef .tc main_v3)
      = rowOf (W (Proc.devRef .tc main_arg1)) := by
  simp only [List.flatten_cons, List.flatten_nil, List.append_nil, List.cons_append, List.nil_append]
  after_results
  simp only [StableHlo.TRef.ofBuf_toBuf]
  simp -implicitDefEqProofs only [StableHlo.TRef.toBuf, StableHlo.TRef.ofBuf, cast_eq]
  unfold rowOf
  with_reducible rfl

theorem head4 (W : Valuation τ sig (Elt Ideal)) :
    StableHlo.after (List.flatten [hostOps0 (F := Ideal), hostOps0_1, hostOps0_2]) W (Proc.devRef .tc main_v4)
      = broadcastInDim S378x1x1 ![0] bcast_S378_S378x1x1_0 (W (Proc.devRef .tc main_arg4)) := by
  simp only [List.flatten_cons, List.flatten_nil, List.append_nil, List.cons_append, List.nil_append]
  after_results

end Cert.Proof.RefTail

end
-- ==== Proof.RefRows.lean ====
/- The block row the reference computes for every stored block. -/
module

public import proofs.«01_k».proof.Proof.RefTail
public import proofs.«01_k».proof.Proof.PreFacts
public import Idealize.ShloMosaic.PureOps.Reduce
public import Idealize.ShloMosaic.Lib.Pointwise

@[expose] public section

noncomputable section

namespace Cert.Proof.RefRows

open Idealize.ShloMosaic Cert.ReferenceIdeal Cert.ReferenceIdeal.Gen Cert.Proof.RefTail
open Cert.Proof.PreFacts (i71 i378 Nums)

/-- Adding up words that are 1 where `p` holds and 0 elsewhere counts. -/
theorem fold_count {ι : Type} [DecidableEq ι] (s : Finset ι) (f : ι → BitVec 32) (p : ι → Prop) [DecidablePred p]
    (hf : ∀ i ∈ s, f i = if p i then 1#32 else 0#32) :
    s.fold IntOp.addi 0#32 f = BitVec.ofNat 32 (s.filter p).card := by
  induction s using Finset.induction_on with
  | empty => rfl
  | insert a s ha ih =>
    rw [Finset.fold_insert ha, ih fun i hi => hf i (Finset.mem_insert_of_mem hi), hf a (Finset.mem_insert_self _ _), Finset.filter_insert]
    split
    · rw [Finset.card_insert_of_notMem fun h => ha (Finset.mem_of_mem_filter _ h)]
      unfold IntOp.addi
      rw [BitVec.add_comm, BitVec.ofNat_add]
    · unfold IntOp.addi
      rw [BitVec.zero_add]

theorem rowOf_eq (rp : IVec S71 32) (e r : ℕ) (he : e < 378) (hr : r ≤ 70)
    (hle : ∀ k, k ≤ r → (rp (i71 k)).toNat ≤ e) (hgt : ∀ k, r < k → k ≤ 70 → e < (rp (i71 k)).toNat)
    (hb : ∀ k, k ≤ 70 → (rp (i71 k)).toNat ≤ 378) : rowOf rp (i378 e) = BitVec.ofNat 32 r := by
  have hR : S71x378.Reduces [0] S378 := by decide
  unfold rowOf
  show IntOp.subi (Host.reduce _ _ _ _ _ _) 1#32 = _
  rw [Host.reduce_eq_fold_single _ _ _ _ hR]
  show IntOp.subi (Finset.fold IntOp.addi 0#32 _ _) 1#32 = _
  refine (congrArg (fun z => IntOp.subi z 1#32) (fold_count (ι := Fin 71) Finset.univ _ (fun k : Fin 71 => k.val ≤ r) ?_)).trans ?_
  · intro k _
    show (IntOp.cmpi .sle (rp _) (BitVec.ofNat 32 _)).setWidth 32 = _
    have key : ∀ (z : S71.Idx) (n : ℕ), (z 0).val = k.val → n = e % 378 →
        (IntOp.cmpi .sle (rp z) (BitVec.ofNat 32 n)).setWidth 32 = if k.val ≤ r then 1#32 else 0#32 := by
      intro z n hz hn
      have hk := k.isLt
      obtain rfl : z = i71 k.val := Cert.Proof.PreFacts.ext71 (hz.trans (Nat.mod_eq_of_lt hk).symm)
      have h1 := hb k.val (by omega)
      have hs : (rp (i71 k.val)).sle (BitVec.ofNat 32 n) = decide ((rp (i71 k.val)).toNat ≤ e) := by
        rw [BitVec.sle_eq_decide, BitVec.toInt_eq_toNat_of_lt (by omega), BitVec.toInt_eq_toNat_of_lt (by rw [BitVec.toNat_ofNat]; omega),
          BitVec.toNat_ofNat, Nat.mod_eq_of_lt (by omega)]
        rw [hn, Nat.mod_eq_of_lt he]
        simp only [Nat.cast_le]
      show (BitVec.ofBool ((rp (i71 k.val)).sle (BitVec.ofNat 32 n))).setWidth 32 = _
      rw [hs]
      by_cases hkr : k.val ≤ r
      · rw [if_pos hkr, decide_eq_true (hle _ hkr)]; rfl
      · rw [if_neg hkr, decide_eq_false (by have := hgt k.val (by omega) (by omega); omega)]; rfl
    exact key _ _ rfl rfl
  · have hc : (Finset.univ.filter fun k : Fin 71 => k.val ≤ r).card = r + 1 := by
      have : (Finset.univ.filter fun k : Fin 71 => k.val ≤ r) = Finset.Iic (⟨r, by omega⟩ : Fin 71) := by
        ext k; simp [Fin.le_def]
      rw [this, Fin.card_Iic]
    rw [hc]
    show BitVec.ofNat 32 (r + 1) - 1#32 = _
    rw [BitVec.ofNat_add]
    exact BitVec.add_sub_cancel _ _

/-- Row pointers never fall. -/
theorem rows_mono (rp : IVec S71 32) (ci : IVec S378 32) (h : Nums rp ci) (a b : ℕ) (hab : a ≤ b) (hb : b ≤ 70) :
    (rp (i71 a)).toNat ≤ (rp (i71 b)).toNat := by
  induction b, hab using Nat.le_induction with
  | base => exact le_rfl
  | succ b _ ih => exact (ih (by omega)).trans (h.mono b (by omega))

/-- Every block has a row: the last one whose pointer is at or below the block. -/
theorem row_exists (rp : IVec S71 32) (ci : IVec S378 32) (h : Nums rp ci) (e : ℕ) :
    ∃ r, r ≤ 70 ∧ (∀ k, k ≤ r → (rp (i71 k)).toNat ≤ e) ∧ (∀ k, r < k → k ≤ 70 → e < (rp (i71 k)).toNat) := by
  have up := rows_mono rp ci h
  have h0 : (rp (i71 0)).toNat ≤ e := by rw [h.start]; omega
  refine ⟨Nat.findGreatest (fun k => (rp (i71 k)).toNat ≤ e) 70, Nat.findGreatest_le _, fun k hk => ?_, fun k hk hk' => ?_⟩
  · exact (up _ _ hk (Nat.findGreatest_le _)).trans (Nat.findGreatest_spec (P := fun k => (rp (i71 k)).toNat ≤ e) (Nat.zero_le 70) h0)
  · exact not_le.1 (Nat.findGreatest_is_greatest (P := fun k => (rp (i71 k)).toNat ≤ e) hk hk')

/-- Row pointers stay at 378 or below. -/
theorem rows_le (rp : IVec S71 32) (ci : IVec S378 32) (h : Nums rp ci) (k : ℕ) (hk : k ≤ 70) : (rp (i71 k)).toNat ≤ 378 := by
  induction hk using Nat.decreasingInduction with
  | self => exact h.last
  | of_succ k hk ih => exact (h.mono k hk).trans ih

/-- The row computed for a block is small. -/
theorem rowOf_lt (rp : IVec S71 32) (ci : IVec S378 32) (h : Nums rp ci) (e : ℕ) (he : e < 378) :
    (rowOf rp (i378 e)).toNat < 2 ^ 31 := by
  obtain ⟨r, hr, hle, hgt⟩ := row_exists rp ci h e
  rw [rowOf_eq rp e r he hr hle hgt (rows_le rp ci h), BitVec.toNat_ofNat]
  omega

/-- The row computed for a block is `R` exactly when the block lies between the pointers of row `R`. -/
theorem rowOf_iff (rp : IVec S71 32) (ci : IVec S378 32) (h : Nums rp ci) (e R : ℕ) (he : e < 378) (hR : R < 70) :
    (rowOf rp (i378 e)).toInt = (R : ℤ) ↔ (rp (i71 R)).toNat ≤ e ∧ e < (rp (i71 (R + 1))).toNat := by
  obtain ⟨r, hr, hle, hgt⟩ := row_exists rp ci h e
  have hv : (rowOf rp (i378 e)).toInt = (r : ℤ) := by
    rw [rowOf_eq rp e r he hr hle hgt (rows_le rp ci h), BitVec.toInt_eq_toNat_of_lt (by rw [BitVec.toNat_ofNat]; omega), BitVec.toNat_ofNat]
    omega
  rw [hv]
  constructor
  · intro e1
    obtain rfl : r = R := by omega
    exact ⟨hle _ le_rfl, hgt _ (by omega) (by omega)⟩
  · rintro ⟨h1, h2⟩
    by_contra hne
    rcases lt_or_gt_of_ne (show r ≠ R by omega) with hlt | hlt
    · exact absurd (hgt R hlt (by omega)) (by omega)
    · exact absurd (hle (R + 1) hlt) (by omega)

end Cert.Proof.RefRows

end
-- ==== Proof.RefLands.lean ====
/- Where the reference's scatter puts an element of a stored block, and which update of a scatter is the one kept. -/
module

public import proofs.«01_k».proof.Proof.RefTail
public import proofs.«01_k».proof.Proof.PreFacts
public import Idealize.ShloMosaic.Lib.Routing.OpsSet
public import Idealize.ShloMosaic.Lib.Pipeline.Value

@[expose] public section

noncomputable section

namespace Cert.Proof.RefLands

open Idealize.ShloMosaic Idealize.ShloMosaic.Routing Cert.ReferenceIdeal Cert.ReferenceIdeal.Gen Cert.Proof.RefTail
open Cert.Proof.PreFacts (i71 i378 Nums)

/-- An index of the table of places: a block and one of the two coordinates. -/
def iP (e : ℕ) (c : Fin 2) : S378x2.Idx :=
  Fin.cons ⟨e % 378, Nat.mod_lt _ (by decide)⟩ (Fin.cons c finZeroElim)

theorem extP {z z' : S378x2.Idx} (h0 : (z 0).val = (z' 0).val) (h1 : (z 1).val = (z' 1).val) : z = z' := by
  funext a
  apply Fin.ext
  match a with
  | ⟨0, _⟩ => exact h0
  | ⟨1, _⟩ => exact h1

/-- The scatter: update `k` lands at `ι` when the two places name `ι`'s block and the other coordinates agree. -/
theorem lands (k : S378x128x128.Idx) (idx : IVec S378x2 32) (ι : S70x128x12x128.Idx) :
    scatter_S70x128x12x128_S378x2_S378x128x128_12_02_02_1.resultIdx? k idx = some ι ↔
      (idx (iP (k 0).val 0)).toInt = (ι 0).val ∧ (k 1).val = (ι 1).val
        ∧ (idx (iP (k 0).val 1)).toInt = (ι 2).val ∧ (k 2).val = (ι 3).val := by
  have hk : (k 0).val < 378 := (k 0).isLt
  have s0 : scatter_S70x128x12x128_S378x2_S378x128x128_12_02_02_1.start k idx 0 = (idx (iP (k 0).val 0)).toInt :=
    congrArg (fun z => (idx z).toInt) (extP (by show (k 0).val = (k 0).val % 378; omega) rfl)
  have s1 : scatter_S70x128x12x128_S378x2_S378x128x128_12_02_02_1.start k idx 1 = 0 := rfl
  have s2 : scatter_S70x128x12x128_S378x2_S378x128x128_12_02_02_1.start k idx 2 = (idx (iP (k 0).val 1)).toInt :=
    congrArg (fun z => (idx z).toInt) (extP (by show (k 0).val = (k 0).val % 378; omega) rfl)
  have s3 : scatter_S70x128x12x128_S378x2_S378x128x128_12_02_02_1.start k idx 3 = 0 := rfl
  have w0 : scatter_S70x128x12x128_S378x2_S378x128x128_12_02_02_1.window k 0 = 0 := rfl
  have w1 : scatter_S70x128x12x128_S378x2_S378x128x128_12_02_02_1.window k 1 = (k 1).val := rfl
  have w2 : scatter_S70x128x12x128_S378x2_S378x128x128_12_02_02_1.window k 2 = 0 := rfl
  have w3 : scatter_S70x128x12x128_S378x2_S378x128x128_12_02_02_1.window k 3 = (k 2).val := rfl
  rw [resultIdx?_eq_some]
  constructor
  · intro h
    have h0 := h 0
    have h1 := h 1
    have h2 := h 2
    have h3 := h 3
    rw [s0, w0] at h0
    rw [s1, w1] at h1
    rw [s2, w2] at h2
    rw [s3, w3] at h3
    refine ⟨by omega, by omega, by omega, by omega⟩
  · rintro ⟨h0, h1, h2, h3⟩ a
    match a with
    | ⟨0, _⟩ => show scatter_S70x128x12x128_S378x2_S378x128x128_12_02_02_1.start k idx 0 + ((scatter_S70x128x12x128_S378x2_S378x128x128_12_02_02_1.window k 0 : ℕ) : ℤ) = ((ι 0).val : ℤ); rw [s0, w0]; omega
    | ⟨1, _⟩ => show scatter_S70x128x12x128_S378x2_S378x128x128_12_02_02_1.start k idx 1 + ((scatter_S70x128x12x128_S378x2_S378x128x128_12_02_02_1.window k 1 : ℕ) : ℤ) = ((ι 1).val : ℤ); rw [s1, w1]; omega
    | ⟨2, _⟩ => show scatter_S70x128x12x128_S378x2_S378x128x128_12_02_02_1.start k idx 2 + ((scatter_S70x128x12x128_S378x2_S378x128x128_12_02_02_1.window k 2 : ℕ) : ℤ) = ((ι 2).val : ℤ); rw [s2, w2]; omega
    | ⟨3, _⟩ => show scatter_S70x128x12x128_S378x2_S378x128x128_12_02_02_1.start k idx 3 + ((scatter_S70x128x12x128_S378x2_S378x128x128_12_02_02_1.window k 3 : ℕ) : ℤ) = ((ι 3).val : ℤ); rw [s3, w3]; omega

/-- An index of a one-column table: a block. -/
def iE (e : ℕ) : S378x1.Idx :=
  Fin.cons ⟨e % 378, Nat.mod_lt _ (by decide)⟩ (Fin.cons ⟨0, by decide⟩ finZeroElim)

/-- A table spread to one column reads back its own entry. -/
theorem column_apply (x : IVec S378 32) (e : ℕ) : broadcastInDim S378x1 ![0] bcast_S378_S378x1_0 x (iE e) = x (i378 e) :=
  congrArg x (Cert.Proof.PreFacts.ext378 rfl)

/-- The first coordinate of a block's place: its row, when that is not negative. -/
theorem places_row (er ci : IVec S378 32) (e : ℕ) (h : (er (i378 e)).toNat < 2 ^ 31) : places er ci (iP e 0) = er (i378 e) := by
  refine Eq.trans ?_ (wrap_of_lt (er (i378 e)) (IntOp.addi (er (i378 e)) 70#32) h)
  unfold places
  refine (concatenate_pair_apply_left (t := S378x2) (s₁ := S378x1) (s₂ := S378x1) _ _ _ _ _ rfl (iE e) ?_).trans ?_
  · intro b
    match b with
    | ⟨0, _⟩ => rfl
    | ⟨1, _⟩ => rfl
  · rw [column_apply]
    rfl

/-- The second coordinate of a block's place: its column. -/
theorem places_col (er ci : IVec S378 32) (e : ℕ) (h : (ci (i378 e)).toNat < 2 ^ 31) : places er ci (iP e 1) = ci (i378 e) := by
  refine Eq.trans ?_ (wrap_of_lt (ci (i378 e)) (IntOp.addi (ci (i378 e)) 12#32) h)
  unfold places
  refine (concatenate_pair_apply_right (t := S378x2) (s₁ := S378x1) (s₂ := S378x1) _ _ _ _ _ rfl rfl (iE e) ?_ ?_).trans ?_
  · intro b hb
    match b, hb with
    | ⟨0, _⟩, _ => rfl
    | ⟨1, _⟩, hb => exact absurd rfl hb
  · rfl
  · rw [column_apply]
    rfl

/-- A scatter whose body keeps the update, read where update `k` lands and no later one does: update `k`. -/
theorem scatter_last {α : Type} {s si u : Shape} {w : ℕ} (d : ScatterDims s si u) (x0 : s.Idx → α) (idx : IVec si w) (upd : u.Idx → α)
    (ι : s.Idx) (k : u.Idx) (hk : d.resultIdx? k idx = some ι)
    (hl : ∀ k', d.resultIdx? k' idx = some ι → (u.rowMajor k').val ≤ (u.rowMajor k).val) :
    Host.scatter d (fun _ b => b) x0 idx upd ι = upd k := by
  unfold Host.scatter
  obtain ⟨l1, l2, hs⟩ := List.append_of_mem (List.mem_finRange (u.rowMajor k))
  have hp := List.pairwise_lt_finRange u.numel
  rw [hs] at hp ⊢
  rw [List.foldl_append, List.foldl_cons]
  have hlater : ∀ n ∈ l2, u.rowMajor k < n := (List.pairwise_cons.1 (List.pairwise_append.1 hp).2.1).1
  have keep : ∀ (l : List (Fin u.numel)) (r : s.Idx → α), (∀ n ∈ l, u.rowMajor k < n) →
      l.foldl (fun r n => match d.resultIdx? (u.rowMajor.symm n) idx with
        | some i => fun i' => if i' = i then upd (u.rowMajor.symm n) else r i'
        | none => r) r ι = r ι := by
    intro l
    induction l with
    | nil => intro r _; rfl
    | cons n l ih =>
      intro r hn
      rw [List.foldl_cons, ih _ fun m hm => hn m (List.mem_cons_of_mem _ hm)]
      have hi := hl (u.rowMajor.symm n)
      have hlt := hn n (List.mem_cons_self ..)
      generalize d.resultIdx? (u.rowMajor.symm n) idx = o at hi ⊢
      cases o with
      | none => rfl
      | some i =>
        dsimp only
        rw [if_neg]
        intro h
        have := hi (congrArg some h.symm)
        rw [Equiv.apply_symm_apply] at this
        exact absurd hlt (not_lt.2 (Fin.le_def.2 this))
  refine (keep l2 _ hlater).trans ?_
  rw [Equiv.symm_apply_apply, hk]
  dsimp only
  rw [if_pos rfl]

end Cert.Proof.RefLands

end
-- ==== Proof.RefRun.lean ====
/- The reference's run: its result is `RefTail.refOut` of its arguments, its arguments are unchanged. -/
module

public import proofs.«01_k».proof.Proof.RefTail
public import Idealize.ShloMosaic.Lib.Pipeline.ValueKit

@[expose] public section

noncomputable section

namespace Cert.Proof.RefRun

open Idealize.ShloMosaic Idealize.ShloMosaic.TcCoe Idealize.SL.Sem Cert.ReferenceIdeal Cert.ReferenceIdeal.Gen Cert.Proof.RefTail
open Idealize.ShloMosaic.Pipeline (Dat Cfg)

variable (m : (ℓ : Loc nD τ sig) → Buf (Elt Ideal) ℓ) (g : Dev nD → PrngReg)

/-- The blocks as the dequantising call leaves them. -/
def blocks (c : Dev nD) : FVec Ideal S378x128x128 .bf16 :=
  k0_pay1 (m ((c : Thread nD τ).loc main_arg3)) (broadcastInDim S378x1x1 ![0] bcast_S378_S378x1x1_0 (m ((c : Thread nD τ).loc main_arg4)))

theorem index0 (t : Fin cfg0.N) (a : Fin 3) : win0_0.index t a = 0 := by fin_cases a <;> rfl
theorem index1 (t : Fin cfg0.N) (a : Fin 3) : win0_1.index t a = 0 := by fin_cases a <;> rfl
theorem index2 (t : Fin cfg0.N) (a : Fin 3) : win0_2.index t a = 0 := by fin_cases a <;> rfl

/-- The stored blocks are staged whole. -/
theorem iblk0 (c : Dev nD) (t : Fin cfg0.N) : iblk m c 0 t = m ((c : Thread nD τ).loc main_arg3) := by
  rw [← V_main_arg3 m c]
  funext y
  unfold iblk
  blk_simp
  congr 1
  funext a
  apply Fin.ext
  fin_cases a
  all_goals blk_simp [index0]

/-- So are the scales, as a column of planes. -/
theorem iblk1 (c : Dev nD) (t : Fin cfg0.N) : iblk m c 1 t = broadcastInDim S378x1x1 ![0] bcast_S378_S378x1x1_0 (m ((c : Thread nD τ).loc main_arg4)) := by
  rw [← show V m c main_v4 = _ from head4 _]
  funext y
  unfold iblk
  blk_simp
  congr 1
  funext a
  apply Fin.ext
  fin_cases a
  all_goals blk_simp [index1]

/-- What the call writes is the dequantised blocks. -/
theorem call_out (c : Dev nD) : (dats m 0 c).arrAt 2 (cfgs 0).N = blocks m c := by
  refine (dats m 0 c).arrAt_eq_of_covers 2 _ (by decide +kernel) fun t hf y => ?_
  blk_simp
  rw [after0_2]
  frame_out
  rw [iblk0, iblk1]
  unfold blocks
  congr 1
  funext a
  apply Fin.ext
  fin_cases a
  all_goals blk_simp [index2]

theorem out_eq (c : Dev nD) : Pipeline.afterTail₀ cfgs (dats m) 0 (V0 m) [hostOps1] c main_v23
    = refOut (m ((c : Thread nD τ).loc main_arg0)) (rowOf (m ((c : Thread nD τ).loc main_arg1))) (m ((c : Thread nD τ).loc main_arg2)) (blocks m c) := by
  unfold Pipeline.afterTail₀
  rw [List.flatten_cons, List.flatten_nil, List.append_nil, tail]
  have e0 : Pipeline.withArrays (cfgs 0).spec c (V0 m c) (fun w => (dats m 0 c).arrAt w (cfgs 0).N) (Proc.devRef .tc main_arg0) = m ((c : Thread nD τ).loc main_arg0) :=
    (Pipeline.withArrays_of_ne _ _ _ _ _ (by decide)).trans (V_main_arg0 m c)
  have e2 : Pipeline.withArrays (cfgs 0).spec c (V0 m c) (fun w => (dats m 0 c).arrAt w (cfgs 0).N) (Proc.devRef .tc main_arg2) = m ((c : Thread nD τ).loc main_arg2) :=
    (Pipeline.withArrays_of_ne _ _ _ _ _ (by decide)).trans (V_main_arg2 m c)
  have e3 : Pipeline.withArrays (cfgs 0).spec c (V0 m c) (fun w => (dats m 0 c).arrAt w (cfgs 0).N) (Proc.devRef .tc main_v3) = rowOf (m ((c : Thread nD τ).loc main_arg1)) :=
    (Pipeline.withArrays_of_ne _ _ _ _ _ (by decide)).trans (head _)
  have e5 : Pipeline.withArrays (cfgs 0).spec c (V0 m c) (fun w => (dats m 0 c).arrAt w (cfgs 0).N) (Proc.devRef .tc main_v5) = blocks m c :=
    (Pipeline.withArrays_arr (cfgs 0).spec launch0.win.arr_inj c (V0 m c) _ 2).trans (call_out m c)
  rw [e0, e2, e3, e5]

/-- The reference's result on core `c`. -/
def result (c : Dev nD) : FVec Ideal S24x384x8960 .bf16 :=
  refOut (m ((c : Thread nD τ).loc main_arg0)) (rowOf (m ((c : Thread nD τ).loc main_arg1))) (m ((c : Thread nD τ).loc main_arg2)) (blocks m c)

theorem run : θ_run (defs (F := Ideal)) (onTc (τ := τ) (main (F := Ideal))) ⟨m, fun _ => 0, g⟩ (fun r => ∀ c : Dev nD,
    r.2.mem ((c.tc : Thread nD τ).loc main_v23) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ ⟨h, k⟩ c => ⟨((h c).2 main_v23 (by decide)).trans (out_eq m c), k c⟩)
    (θ_run_and (run_main m g) (unchanged m g))

end Cert.Proof.RefRun

end
-- ==== Proof.BlockValue.lean ====
/- An element of a stored block, dequantised: the reference and the kernel compute the same number. -/
module

public import proofs.«01_k».proof.Proof.RefRun
public import proofs.«01_k».proof.Proof.PreFacts
public import proofs.«01_k».proof.Proof.KernelIdeal.Fold
public import Idealize.ShloMosaic.Lib.Pointwise
public import Idealize.ShloMosaic.Lib.Pipeline.Value

@[expose] public section

noncomputable section

namespace Cert.Proof.BlockValue

open Idealize.ShloMosaic

/-- After `n` positions: the value at the last hit, or the default when nothing hits. -/
theorem lastHit_cases {α : Type} (hit : ℕ → Prop) [DecidablePred hit] (val : ℕ → α) (z : α) (lo n : ℕ) :
    (∃ e, lo ≤ e ∧ e < lo + n ∧ hit e ∧ (∀ e', lo ≤ e' → e' < lo + n → hit e' → e' ≤ e) ∧ Cert.Proof.KernelIdeal.lastHit hit val z lo n = val e)
      ∨ ((∀ e, lo ≤ e → e < lo + n → ¬ hit e) ∧ Cert.Proof.KernelIdeal.lastHit hit val z lo n = z) := by
  induction n with
  | zero => exact Or.inr ⟨fun e h h' => by omega, rfl⟩
  | succ n ih =>
    unfold Cert.Proof.KernelIdeal.lastHit
    by_cases h : hit (lo + n)
    · rw [if_pos h]
      exact Or.inl ⟨lo + n, by omega, by omega, h, fun e' _ h' _ => by omega, rfl⟩
    · rw [if_neg h]
      rcases ih with ⟨e, h1, h2, h3, h4, h5⟩ | ⟨h1, h2⟩
      · refine Or.inl ⟨e, h1, by omega, h3, fun e' a b c => ?_, h5⟩
        rcases Nat.lt_or_ge e' (lo + n) with hlt | hge
        · exact h4 e' a hlt c
        · obtain rfl : e' = lo + n := by omega
          exact absurd c h
      · refine Or.inr ⟨fun e a b c => ?_, h2⟩
        rcases Nat.lt_or_ge e (lo + n) with hlt | hge
        · exact h1 e a hlt c
        · obtain rfl : e = lo + n := by omega
          exact absurd c h

open Cert.ReferenceIdeal Cert.ReferenceIdeal.Gen in
/-- An element of the reference's dequantised block: the stored value times the block's scale. -/
theorem ref_value (s : FVec Ideal S378 .f32) (b : FVec Ideal S378x128x128 .fp8e4m3) (k : S378x128x128.Idx) :
    (k0_pay1 (F := Ideal) b (broadcastInDim S378x1x1 ![0] bcast_S378_S378x1x1_0 s) k : EReal)
      = (b k : EReal) * (s (Cert.Proof.PreFacts.i378 (k 0).val) : EReal) := by
  unfold k0_pay1
  pointwise
  exact congrArg (fun z => b k * s z) (Cert.Proof.PreFacts.ext378 (Nat.mod_eq_of_lt (k 0).isLt).symm)

open Cert.KernelIdeal Cert.KernelIdeal.Gen Cert.Proof.KernelIdeal in
/-- An element the kernel writes from a block: the same product. -/
theorem kernel_value (s : FVec Ideal S378 .f32) (b : FVec Ideal S378x128x128 .fp8e4m3) (k : S378x128x128.Idx) :
    (cellVal (F := Ideal) s b (k 0).val (k 1).val (k 2).val : EReal)
      = (b k : EReal) * (s (Cert.Proof.PreFacts.i378 (k 0).val) : EReal) := by
  unfold cellVal k0_pay5
  pointwise
  refine congrArg₂ (fun z z' => b z * s z') ?_ rfl
  funext a
  apply Fin.ext
  match a with
  | ⟨0, _⟩ => exact Nat.mod_eq_of_lt (k 0).isLt
  | ⟨1, _⟩ => exact Nat.mod_eq_of_lt (k 1).isLt
  | ⟨2, _⟩ => exact Nat.mod_eq_of_lt (k 2).isLt

end Cert.Proof.BlockValue

end
-- ==== Proof.Placed.lean ====
/- The dense weights: the reference's scatter and the kernel's fill of its scratch give the same table. -/
module

public import proofs.«01_k».proof.Proof.RefRows
public import proofs.«01_k».proof.Proof.RefLands
public import proofs.«01_k».proof.Proof.BlockValue

@[expose] public section

noncomputable section

namespace Cert.Proof.Placed

open Idealize.ShloMosaic Idealize.ShloMosaic.Routing Cert.ReferenceIdeal Cert.ReferenceIdeal.Gen
open Cert.Proof.RefTail Cert.Proof.RefRows Cert.Proof.RefLands Cert.Proof.BlockValue
open Cert.Proof.PreFacts (i71 i378 Nums)

/-- A block read at an update index of the scatter, by number. -/
def iB (e p q : ℕ) : S378x128x128.Idx :=
  Fin.cons ⟨e % 378, Nat.mod_lt _ (by decide)⟩ (Fin.cons ⟨p % 128, Nat.mod_lt _ (by decide)⟩ (Fin.cons ⟨q % 128, Nat.mod_lt _ (by decide)⟩ finZeroElim))

/-- Update `k` lands at `ι` when its block lies in block row `ι 0`, its column is `ι 2`, and the places inside the block agree. -/
theorem lands_iff (rp : IVec S71 32) (ci : IVec S378 32) (h : Nums rp ci) (k : S378x128x128.Idx) (ι : S70x128x12x128.Idx) :
    scatter_S70x128x12x128_S378x2_S378x128x128_12_02_02_1.resultIdx? k (places (rowOf rp) ci) = some ι ↔
      ((rp (i71 (ι 0).val)).toNat ≤ (k 0).val ∧ (k 0).val < (rp (i71 ((ι 0).val + 1))).toNat) ∧ (k 1).val = (ι 1).val
        ∧ (ci (i378 (k 0).val)).toNat = (ι 2).val ∧ (k 2).val = (ι 3).val := by
  have hk : (k 0).val < 378 := (k 0).isLt
  have hι : (ι 0).val < 70 := (ι 0).isLt
  rw [lands, places_row _ _ _ (rowOf_lt rp ci h _ hk), rowOf_iff rp ci h _ _ hk hι]
  refine and_congr_right fun hrow => ?_
  have hc := h.cols (k 0).val (lt_of_lt_of_le hrow.2 (rows_mono rp ci h _ 70 (by omega) le_rfl))
  rw [places_col _ _ _ (by omega), BitVec.toInt_eq_toNat_of_lt (by omega)]
  simp only [Nat.cast_inj]

/-- The two dense tables agree, entry by entry. -/
theorem placed_eq (rp : IVec S71 32) (ci : IVec S378 32) (h : Nums rp ci) (s : FVec Ideal S378 .f32) (b : FVec Ideal S378x128x128 .fp8e4m3)
    (ι : S70x128x12x128.Idx) (y : Cert.KernelIdeal.S8960x1536.Idx) (h0 : (y 0).val = 128 * (ι 0).val + (ι 1).val) (h1 : (y 1).val = 128 * (ι 2).val + (ι 3).val) :
    placed (rowOf rp) ci (k0_pay1 (F := Ideal) b (broadcastInDim S378x1x1 ![0] bcast_S378_S378x1x1_0 s)) ι
      = Cert.Proof.KernelIdeal.weights (F := Ideal) rp ci s b y := by
  have l0 : (ι 0).val < 70 := (ι 0).isLt
  have l1 : (ι 1).val < 128 := (ι 1).isLt
  have l3 : (ι 3).val < 128 := (ι 3).isLt
  have hm := h.mono (ι 0).val l0
  have hl := rows_le rp ci h ((ι 0).val + 1) (by omega)
  have d0 : (y 0).val / 128 = (ι 0).val := by omega
  have d1 : (y 0).val % 128 = (ι 1).val := by omega
  have d2 : (y 1).val / 128 = (ι 2).val := by omega
  have d3 : (y 1).val % 128 = (ι 3).val := by omega
  unfold placed Cert.Proof.KernelIdeal.weights Cert.Proof.KernelIdeal.cell
  rw [d0, d1, d2, d3]
  change _ = Cert.Proof.KernelIdeal.lastHit _ _ _ (rp (i71 (ι 0).val)).toNat ((rp (i71 ((ι 0).val + 1))).toNat - (rp (i71 (ι 0).val)).toNat)
  rcases lastHit_cases (fun e => Cert.Proof.KernelIdeal.ciN ci e = (ι 2).val)
      (fun e => Cert.Proof.KernelIdeal.cellVal (F := Ideal) s b e (ι 1).val (ι 3).val) (Cert.Proof.KernelIdeal.zeroVal (F := Ideal))
      (rp (i71 (ι 0).val)).toNat ((rp (i71 ((ι 0).val + 1))).toNat - (rp (i71 (ι 0).val)).toNat) with ⟨e, a1, a2, a3, a4, a5⟩ | ⟨a1, a2⟩
  · rw [a5]
    have he : e < 378 := by omega
    have k0 : ((iB e (ι 1).val (ι 3).val) 0).val = e := Nat.mod_eq_of_lt he
    have k1 : ((iB e (ι 1).val (ι 3).val) 1).val = (ι 1).val := Nat.mod_eq_of_lt l1
    have k2 : ((iB e (ι 1).val (ι 3).val) 2).val = (ι 3).val := Nat.mod_eq_of_lt l3
    rw [scatter_last _ _ _ _ ι (iB e (ι 1).val (ι 3).val)]
    · have e1 := ref_value s b (iB e (ι 1).val (ι 3).val)
      have e2 := kernel_value s b (iB e (ι 1).val (ι 3).val)
      rw [k0, k1, k2] at e2
      rw [k0] at e1
      exact e1.trans e2.symm
    · rw [lands_iff rp ci h, k0, k1, k2]
      exact ⟨⟨a1, by omega⟩, rfl, a3, rfl⟩
    · intro k' hk'
      rw [lands_iff rp ci h] at hk'
      obtain ⟨⟨b1, b2⟩, b3, b4, b5⟩ := hk'
      have := a4 (k' 0).val b1 (by omega) b4
      rw [Shape.rowMajor_val_three, Shape.rowMajor_val_three, k0, k1, k2, b3, b5]
      gcongr
  · rw [a2, scatter_set_miss]
    · rfl
    · intro k' hk'
      rw [lands_iff rp ci h] at hk'
      obtain ⟨⟨b1, b2⟩, b3, b4, b5⟩ := hk'
      exact a1 (k' 0).val b1 (by omega) b4

end Cert.Proof.Placed

end
-- ==== Proof.KernelIdeal.Value.lean ====
/- What the kernel's grid points are given: the scales and the stored blocks whole, and 256 rows of the activations. -/
module

public import proofs.«01_k».proof.Proof.KernelIdeal.Pre
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat Cfg)

variable {F : FTy → Type} [FloatOps F]
variable (m : (ℓ : Loc nD τ sig) → Buf (Elt F) ℓ) (g : Dev nD → PrngReg)

/-- The activations, one row after another. -/
def rowsM (c : Dev nD) : Vec F S9216x1536 .bf16 :=
  shapeCast S9216x1536 (m ((c : Thread nD τ).loc main_arg0)) shapeCasts_S24x384x1536_S9216x1536

theorem V_main_v0 (c : Dev nD) : V m c main_v0 = rowsM m c := by
  unfold V V0
  simp only [List.flatten_cons, List.flatten_nil, List.append_nil]
  after_results
  rfl

theorem tail (W : Valuation τ sig (Elt F)) :
    StableHlo.after (hostOps1 (F := F)) W (Proc.devRef .tc main_v2)
      = shapeCast S24x384x8960 (W (Proc.devRef .tc main_v1)) shapeCasts_S9216x8960_S24x384x8960 := by
  after_results
  rfl

theorem tr1_0 (t : Fin grid0.N) : cc0_transform_1 (grid0.coords t) 0 = t.val := by revert t; decide +kernel
theorem tr3_0 (t : Fin grid0.N) : cc0_transform_3 (grid0.coords t) 0 = t.val := by revert t; decide +kernel

theorem index_0 (hO : Ok m) (t : Fin (cfgM m hO).N) (a : Fin 1) : ((cfgM m hO).win 0).index t a = 0 := by fin_cases a <;> rfl
theorem index_1 (hO : Ok m) (t : Fin (cfgM m hO).N) : ((cfgM m hO).win 1).index t (0 : Fin 2) = t.val ∧ ((cfgM m hO).win 1).index t (1 : Fin 2) = 0 := ⟨tr1_0 t, rfl⟩
theorem index_2 (hO : Ok m) (t : Fin (cfgM m hO).N) (a : Fin 3) : ((cfgM m hO).win 2).index t a = 0 := by fin_cases a <;> rfl
theorem index_3 (hO : Ok m) (t : Fin (cfgM m hO).N) : ((cfgM m hO).win 3).index t (0 : Fin 2) = t.val ∧ ((cfgM m hO).win 3).index t (1 : Fin 2) = 0 := ⟨tr3_0 t, rfl⟩

/-- The scales are staged whole. -/
theorem iblk_0 (hO : Ok m) (c : Dev nD) (t : Fin (cfgM m hO).N) : iblk m hO c 0 t = m ((c : Thread nD τ).loc main_arg4) := by
  rw [← V_main_arg4 m c]
  funext y
  unfold iblk
  rw [View.read_apply]
  show V m c main_arg4 _ = V m c main_arg4 y
  congr 1
  funext a
  apply Fin.ext
  exact Pipeline.Window.rect_emb_val_of_index_zero _ t a (index_0 m hO t a) y

/-- The stored blocks are staged whole. -/
theorem iblk_2 (hO : Ok m) (c : Dev nD) (t : Fin (cfgM m hO).N) : iblk m hO c 2 t = m ((c : Thread nD τ).loc main_arg3) := by
  rw [← V_main_arg3 m c]
  funext y
  unfold iblk
  rw [View.read_apply]
  show V m c main_arg3 _ = V m c main_arg3 y
  congr 1
  funext a
  apply Fin.ext
  exact Pipeline.Window.rect_emb_val_of_index_zero _ t a (index_2 m hO t a) y

/-- A row of the activations by number, taken modulo the extents. -/
def iX (p q : ℕ) : S9216x1536.Idx := Fin.cons ⟨p % 9216, Nat.mod_lt _ (by decide)⟩ (Fin.cons ⟨q % 1536, Nat.mod_lt _ (by decide)⟩ finZeroElim)

/-- Point `t` stages rows `256 t …` of the activations. -/
theorem iblk_1 (hO : Ok m) (c : Dev nD) (t : Fin (cfgM m hO).N) :
    iblk m hO c 1 t = fun y : S256x1536.Idx => rowsM m c (iX (256 * t.val + (y 0).val) (y 1).val) := by
  rw [← V_main_v0 m c]
  funext y
  unfold iblk
  rw [View.read_apply]
  show V m c main_v0 _ = V m c main_v0 _
  congr 1
  funext a
  apply Fin.ext
  have h := Pipeline.Window.rect_emb_val ((cfgM m hO).win 1) t y a
  have ht : t.val < 36 := t.isLt
  have e := index_1 m hO t
  refine h.trans ?_
  fin_cases a
  · have hy : (y (0 : Fin 2)).val < 256 := (y (0 : Fin 2)).isLt
    show ((cfgM m hO).win 1).index t (0 : Fin 2) * 256 + (y (0 : Fin 2)).val = (256 * t.val + (y (0 : Fin 2)).val) % 9216
    rw [e.1]; omega
  · have hy : (y (1 : Fin 2)).val < 1536 := (y (1 : Fin 2)).isLt
    show ((cfgM m hO).win 1).index t (1 : Fin 2) * 1536 + (y (1 : Fin 2)).val = (y (1 : Fin 2)).val % 1536
    rw [e.2]; omega

end Cert.Proof.KernelIdeal

end
-- ==== Proof.KernelIdeal.Out.lean ====
/- The kernel's result array after the run: every 256-row block of it is the product of the activations' block with the
   weights, and the result is that array read as three axes. -/
module

public import proofs.«01_k».proof.Proof.KernelIdeal.Value
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat Cfg)

variable {F : FTy → Type} [FloatOps F]
variable (m : (ℓ : Loc nD τ sig) → Buf (Elt F) ℓ) (g : Dev nD → PrngReg)

/-- THE PRODUCT by blocks: row `y 0` in 256-row block `y 0 / 256`, column `y 1` in 1280-column chunk `y 1 / 1280`. -/
def outAll (x : Vec F S9216x1536 .bf16) (W : Vec F S8960x1536 .bf16) : Vec F S9216x8960 .bf16 := fun y =>
  k0_pay7 (fun z : S256x1536.Idx => x (iX (256 * ((y 0).val / 256) + (z 0).val) (z 1).val)) (chunk W ((y 1).val / 1280))
    (iC (y 0).val ((y 1).val % 1280))

theorem covers (hO : Ok m) : ((cfgM m hO).win 3).Covers := by
  refine ⟨fun a => ?_, fun β => ?_⟩
  · have ha : ∀ a : Fin 2, 0 < S256x8960.size a := by decide
    exact ha a
  · have h0 : (β (0 : Fin 2)).val < 36 := lt_of_lt_of_eq (β (0 : Fin 2)).isLt (by norm_num : (9216 + 256 - 1) / 256 = 36)
    have h1 : (β (1 : Fin 2)).val < 1 := lt_of_lt_of_eq (β (1 : Fin 2)).isLt (by norm_num : (8960 + 8960 - 1) / 8960 = 1)
    have hN : (β (0 : Fin 2)).val < (cfgM m hO).N := lt_of_lt_of_eq h0 (N_0).symm
    refine ⟨⟨(β (0 : Fin 2)).val, hN⟩, flush0_3 _ _, fun a => ⟨?_, .inl rfl⟩⟩
    have e := index_3 m hO ⟨(β (0 : Fin 2)).val, hN⟩
    have ha : a = (0 : Fin 2) ∨ a = (1 : Fin 2) := by
      have : ∀ a : Fin 2, a = 0 ∨ a = 1 := by decide
      exact this a
    rcases ha with rfl | rfl
    · exact e.1
    · exact e.2.trans (by omega)

theorem emb_3 (hO : Ok m) (t : Fin (cfgM m hO).N) (y : S256x8960.Idx) (u : S9216x8960.Idx)
    (hu : u = (((cfgM m hO).win 3).blk t).view.emb y) : (u 0).val = 256 * t.val + (y 0).val ∧ (u 1).val = (y 1).val := by
  have e := index_3 m hO t
  have h0 : (u 0).val = _ := (congrArg (fun u : S9216x8960.Idx => (u 0).val) hu).trans (Pipeline.Window.rect_emb_val ((cfgM m hO).win 3) t y (0 : Fin 2))
  have h1 : (u 1).val = _ := (congrArg (fun u : S9216x8960.Idx => (u 1).val) hu).trans (Pipeline.Window.rect_emb_val ((cfgM m hO).win 3) t y (1 : Fin 2))
  constructor
  · refine h0.trans ?_
    show ((cfgM m hO).win 3).index t (0 : Fin 2) * 256 + (y (0 : Fin 2)).val = _
    rw [e.1]; omega
  · refine h1.trans ?_
    show ((cfgM m hO).win 3).index t (1 : Fin 2) * 8960 + (y (1 : Fin 2)).val = _
    rw [e.2]; omega

theorem iC_mod (p p' q : ℕ) (h : p % 256 = p' % 256) : iC p q = iC p' q := by
  unfold iC; simp only [h]

theorem outBlk_eq (x : Vec F S9216x1536 .bf16) (W : Vec F S8960x1536 .bf16) (t : ℕ) (y : S256x8960.Idx) (u : S9216x8960.Idx)
    (h : (u 0).val = 256 * t + (y 0).val ∧ (u 1).val = (y 1).val) :
    outBlk (fun z : S256x1536.Idx => x (iX (256 * t + (z 0).val) (z 1).val)) W y = outAll x W u := by
  have hy : (y (0 : Fin 2)).val < 256 := (y (0 : Fin 2)).isLt
  unfold outBlk outAll
  rw [h.1, h.2]
  rw [show (256 * t + (y (0 : Fin 2)).val) / 256 = t by omega]
  rw [iC_mod (256 * t + (y (0 : Fin 2)).val) (y (0 : Fin 2)).val _ (by omega)]

/-- THE OUTPUT ARRAY after the run. -/
theorem out_arr (hO : Ok m) (c : Dev nD) : (dats m hO 0 c).arrAt 3 (cfgM m hO).N = outAll (rowsM m c) (weightsM m hO c) := by
  refine (dats m hO 0 c).arrAt_eq_of_covers 3 _ (covers m hO) (fun t hf y => ?_) (Memref.isWhole_whole _)
  rw [after0_3, iblk_1]
  exact outBlk_eq (rowsM m c) (weightsM m hO c) t.val y _ (emb_3 m hO t y _ rfl)

/-- The weights the kernel builds, of the arguments. -/
theorem weightsM_eq (hO : Ok m) (c : Dev nD) : weightsM m hO c
    = weights (m ((c : Thread nD τ).loc main_arg1)) (m ((c : Thread nD τ).loc main_arg2)) (m ((c : Thread nD τ).loc main_arg4)) (m ((c : Thread nD τ).loc main_arg3)) := by
  unfold weightsM
  rw [iblk_0, iblk_2, rp_eq, ci_eq]

/-- The kernel's result on core `c`. -/
def result (c : Dev nD) : Vec F S24x384x8960 .bf16 :=
  shapeCast S24x384x8960 (outAll (rowsM m c)
    (weights (m ((c : Thread nD τ).loc main_arg1)) (m ((c : Thread nD τ).loc main_arg2)) (m ((c : Thread nD τ).loc main_arg4)) (m ((c : Thread nD τ).loc main_arg3))))
    shapeCasts_S9216x8960_S24x384x8960

theorem exit_main_v1 (hO : Ok m) (c : Dev nD) :
    Pipeline.withArrays (Pipeline.pin (pcfgs (F := F)) (fun _ => adm m hO) 0).spec c (V0 m c) (fun w => (dats m hO 0 c).arrAt w (Pipeline.pin (pcfgs (F := F)) (fun _ => adm m hO) 0).N) (Proc.devRef .tc main_v1)
      = outAll (rowsM m c) (weightsM m hO c) :=
  (Pipeline.withArrays_arr spec0 (launch0 (F := F)).win.arr_inj c (V0 m c) (fun w => (dats m hO 0 c).arrAt w (Pipeline.pin (pcfgs (F := F)) (fun _ => adm m hO) 0).N) 3).trans (out_arr m hO c)

theorem out_eq' (hO : Ok m) (c : Dev nD) :
    Pipeline.afterTail pcfgs (fun _ => adm m hO) (dats m hO) 0 (V0 m) [hostOps1] c main_v2 = result m c := by
  unfold Pipeline.afterTail
  rw [List.flatten_cons, List.flatten_nil, List.append_nil, tail]
  unfold result
  rw [← weightsM_eq m hO, exit_main_v1 m hO c]

theorem run (hO : Ok m) (hG : GoodM m) : θ_run defs (onTc (τ := τ) (main (F := F))) ⟨m, fun _ => 0, g⟩ (fun r => ∀ c : Dev nD,
    r.2.mem ((c.tc : Thread nD τ).loc main_v2) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ ⟨h, k⟩ c => ⟨((h c).2 main_v2 (by decide : main_v2 ∈ Pipeline.restRefs sig spec0)).trans (out_eq' m hO c), k c⟩)
    (θ_run_and (run_main m g hO hG) (unchanged m g hO hG))

end Cert.Proof.KernelIdeal

end
-- ==== Proof.Product.lean ====
/- The product: reference and kernel sum the same terms, and the two results are the same array. -/
module

public import proofs.«01_k».proof.Proof.Placed
public import proofs.«01_k».proof.Proof.KernelIdeal.Out
public import Idealize.ShloMosaic.Lib.Pointwise

@[expose] public section

noncomputable section

namespace Cert.Proof.Product

open Idealize.ShloMosaic

open Cert.ReferenceIdeal Cert.ReferenceIdeal.Gen in
/-- An entry of the reference's product. -/
theorem ref_product (x : FVec Ideal S24x384x1536 .bf16) (w : FVec Ideal S8960x1536 .bf16) (j : S24x384x8960.Idx) :
    (truncf .bf16 (Host.dotGeneral dot_S24x384x1536_S8960x1536_S24x384x8960_2_1_01_0_n_n none x w : FVec Ideal S24x384x8960 .f32) bitsLt_bf16_f32 j : EReal)
      = ∑ k : Fin 1536, (x (ix3 (j 0) (j 1) k) : EReal) * (w (ix2 (j 2) k) : EReal) := by
  pointwise

open Cert.KernelIdeal Cert.KernelIdeal.Gen Cert.Proof.KernelIdeal in
/-- An entry of one product in the kernel. -/
theorem kernel_product (x : FVec Ideal S256x1536 .bf16) (w : FVec Ideal S1280x1536 .bf16) (j : S256x1280.Idx) :
    (k0_pay7 (F := Ideal) x w j : EReal) = ∑ k : Fin 1536, (x (ix2 (j 0) k) : EReal) * (w (ix2 (j 1) k) : EReal) := by
  unfold k0_pay7
  pointwise

open Cert.ReferenceIdeal Cert.ReferenceIdeal.Gen in
/-- An index of the dense table as the scatter shapes it. -/
def iD (p q : ℕ) : S70x128x12x128.Idx :=
  Fin.cons ⟨p / 128 % 70, Nat.mod_lt _ (by decide)⟩ (Fin.cons ⟨p % 128, Nat.mod_lt _ (by decide)⟩
    (Fin.cons ⟨q / 128 % 12, Nat.mod_lt _ (by decide)⟩ (Fin.cons ⟨q % 128, Nat.mod_lt _ (by decide)⟩ finZeroElim)))

open Cert.ReferenceIdeal Cert.ReferenceIdeal.Gen Cert.Proof.RefTail in
/-- The reference's dense table, read as a matrix, is the kernel's scratch. -/
theorem dense_eq (rp : IVec S71 32) (ci : IVec S378 32) (h : Cert.Proof.PreFacts.Nums rp ci) (s : FVec Ideal S378 .f32)
    (b : FVec Ideal S378x128x128 .fp8e4m3) :
    shapeCast S8960x1536 (placed (rowOf rp) ci (k0_pay1 (F := Ideal) b (broadcastInDim S378x1x1 ![0] bcast_S378_S378x1x1_0 s))) shapeCasts_S70x128x12x128_S8960x1536
      = Cert.Proof.KernelIdeal.weights (F := Ideal) rp ci s b := by
  funext y
  have h0 : (y 0).val < 8960 := (y 0).isLt
  have h1 : (y 1).val < 1536 := (y 1).isLt
  have i0 : ((iD (y 0).val (y 1).val) 0).val = (y 0).val / 128 % 70 := rfl
  have i1 : ((iD (y 0).val (y 1).val) 1).val = (y 0).val % 128 := rfl
  have i2 : ((iD (y 0).val (y 1).val) 2).val = (y 1).val / 128 % 12 := rfl
  have i3 : ((iD (y 0).val (y 1).val) 3).val = (y 1).val % 128 := rfl
  refine (shapeCast_apply _ _ y (iD (y 0).val (y 1).val) ?_).trans (Cert.Proof.Placed.placed_eq rp ci h s b _ y ?_ ?_)
  · rw [Shape.rowMajor_val_two, Shape.rowMajor_val_four, i0, i1, i2, i3]
    show (((y 0).val / 128 % 70 * 128 + (y 0).val % 128) * 12 + (y 1).val / 128 % 12) * 128 + (y 1).val % 128 = (y 0).val * 1536 + (y 1).val
    omega
  · rw [i0, i1]; omega
  · rw [i2, i3]; omega

/-- An index of the kernel's two-axis result. -/
def iR (p q : ℕ) : Cert.KernelIdeal.S9216x8960.Idx :=
  Fin.cons ⟨p % 9216, Nat.mod_lt _ (by decide)⟩ (Fin.cons ⟨q % 8960, Nat.mod_lt _ (by decide)⟩ finZeroElim)

open Cert.KernelIdeal Cert.KernelIdeal.Gen Cert.Proof.KernelIdeal in
/-- THE EQUATION: the reference's result and the kernel's are the same array. -/
theorem equation (x : FVec Ideal S24x384x1536 .bf16) (rp : IVec S71 32) (ci : IVec S378 32) (h : Cert.Proof.PreFacts.Nums rp ci)
    (s : FVec Ideal S378 .f32) (b : FVec Ideal S378x128x128 .fp8e4m3) :
    Cert.Proof.RefTail.refOut x (Cert.Proof.RefTail.rowOf rp) ci (Cert.ReferenceIdeal.Gen.k0_pay1 (F := Ideal) b
        (broadcastInDim Cert.ReferenceIdeal.S378x1x1 ![0] Cert.ReferenceIdeal.Gen.bcast_S378_S378x1x1_0 s))
      = shapeCast S24x384x8960 (outAll (F := Ideal) (shapeCast S9216x1536 x shapeCasts_S24x384x1536_S9216x1536) (weights (F := Ideal) rp ci s b))
          shapeCasts_S9216x8960_S24x384x8960 := by
  funext j
  have h0 : (j 0).val < 24 := (j 0).isLt
  have h1 : (j 1).val < 384 := (j 1).isLt
  have h2 : (j 2).val < 8960 := (j 2).isLt
  unfold Cert.Proof.RefTail.refOut
  rw [dense_eq rp ci h s b]
  refine (ref_product _ _ j).trans ?_
  refine Eq.trans ?_ (shapeCast_apply _ _ j (iR (384 * (j 0).val + (j 1).val) (j 2).val) ?_).symm
  · unfold outAll
    refine Eq.trans ?_ (kernel_product _ _ _).symm
    refine Finset.sum_congr rfl fun k _ => congrArg₂ (fun a b : EReal => a * b) ?_ ?_
    · refine (shapeCast_apply _ _ _ _ ?_).symm
      rw [Shape.rowMajor_val_two, Shape.rowMajor_val_three]
      show ((j 0).val * 384 + (j 1).val) * 1536 + k.val
        = (256 * ((384 * (j 0).val + (j 1).val) % 9216 / 256) + (384 * (j 0).val + (j 1).val) % 9216 % 256) % 9216 * 1536 + k.val % 1536
      have := k.isLt
      omega
    · refine congrArg (weights (F := Ideal) rp ci s b) ?_
      funext a
      apply Fin.ext
      match a with
      | ⟨0, _⟩ =>
        show (j 2).val = (1280 * ((j 2).val % 8960 / 1280) + (j 2).val % 8960 % 1280 % 1280) % 8960
        omega
      | ⟨1, _⟩ => exact (Nat.mod_eq_of_lt k.isLt).symm
  · rw [Shape.rowMajor_val_two, Shape.rowMajor_val_three]
    show (384 * (j 0).val + (j 1).val) % 9216 * 8960 + (j 2).val % 8960 = ((j 0).val * 384 + (j 1).val) * 8960 + (j 2).val
    omega

end Cert.Proof.Product

end
-- ==== Proof.lean ====
/- The proof of the claims (Defs.lean): each program runs and leaves its arguments as they were; the ideal program is the
   kernel's own text; the ideal program and the reference compute the same result. -/
module

public import proofs.«01_k».proof.Defs
public import proofs.«01_k».proof.Proof.Kernel.Pre
public import proofs.«01_k».proof.Proof.KernelIdeal.Pre
public import proofs.«01_k».proof.Proof.Gen.ReferenceIdeal.Frame
public import proofs.«01_k».proof.Proof.Gen.Pre_block_csr
public import proofs.«01_k».proof.Proof.Product
public import Idealize.ShloMosaic.Adequacy
public import Idealize.ShloMosaic.Init

@[expose] public section

noncomputable section

namespace Cert.Proof

open Idealize.ShloMosaic Idealize.SL.Sem

instance : Cert.Pre_block_csr.Facts := Cert.Pre_block_csr.Gen.facts

/-- The kernel's frame, over bits. -/
theorem frame_kernel : Cert.quiescent_Kernel (hKernel := Cert.Kernel.Gen.facts) (hPre_block_csr := Cert.Pre_block_csr.Gen.facts) := fun m g h =>
  Cert.Proof.Kernel.frame m g (Cert.Proof.Kernel.ok m) (Cert.Proof.Kernel.good_of_nums m (Cert.Proof.PreFacts.nums _ _ _ _ _ (h 0)))

/-- The kernel's frame, over the extended reals. -/
theorem frame_kernelIdeal : Cert.quiescent_KernelIdeal (hKernelIdeal := Cert.KernelIdeal.Gen.facts) (hPre_block_csr := Cert.Pre_block_csr.Gen.facts) := fun m g h =>
  Cert.Proof.KernelIdeal.frame m g (Cert.Proof.KernelIdeal.ok m) (Cert.Proof.KernelIdeal.good_of_nums m (Cert.Proof.PreFacts.nums _ _ _ _ _ (h 0)))

/-- The reference's result, from the same arguments, is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.Proof.PreFacts.Nums (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.Proof.RefRun.result m' c = Cert.Proof.KernelIdeal.result (F := Ideal) m c := by
  unfold Cert.Proof.RefRun.result Cert.Proof.RefRun.blocks Cert.Proof.KernelIdeal.result Cert.Proof.KernelIdeal.rowsM
  rw [e0, e1, e2, e3, e4]
  exact Cert.Proof.Product.equation _ _ _ h _ _

/-- The kernel and the reference, over the extended reals, end with the same result. -/
theorem algebraic : Cert.algebraic_KernelIdeal_ReferenceIdeal (hKernelIdeal := Cert.KernelIdeal.Gen.facts)
    (hReferenceIdeal := Cert.ReferenceIdeal.Gen.facts) (hPre_block_csr := Cert.Pre_block_csr.Gen.facts) := by
  intro m g m' g' hpre hagree
  have hn : ∀ c : Dev Cert.KernelIdeal.nD, Cert.Proof.PreFacts.Nums (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    fun c => Cert.Proof.PreFacts.nums _ _ _ _ _ (hpre c)
  refine ⟨fun c => Cert.Proof.KernelIdeal.result (F := Ideal) m c,
    Cert.Proof.KernelIdeal.run m g (Cert.Proof.KernelIdeal.ok m) (Cert.Proof.KernelIdeal.good_of_nums m (hn 0)), ?_⟩
  refine (θ_run _ _ _).mono (fun r hr c => ?_) (Cert.Proof.RefRun.run m' g')
  obtain ⟨e0, e1, e2, e3, e4⟩ := hagree c
  exact ⟨(hr c).1.trans (result_eq m m' c (hn c) e0 e1 e2 e3 e4), (hr c).2⟩

theorem claim : Cert.Claim := ⟨Cert.Kernel.Gen.facts, Cert.KernelIdeal.Gen.facts, Cert.ReferenceIdeal.Gen.facts, Cert.Pre_block_csr.Gen.facts,
  frame_kernel, frame_kernelIdeal, fun m g _ => Cert.ReferenceIdeal.Gen.frame m g, fun m g _ => Cert.ReferenceIdeal.Gen.frame m g, trivial, algebraic⟩

end Cert.Proof

end
